-- ==== Defs.lean ====
def Pre_Kernel [hPre_starts_fit : Cert.Pre_starts_fit.Facts] (m : (ℓ : Loc Cert.Kernel.nD Cert.Kernel.τ Cert.Kernel.sig) → Buf (Elt Bits) ℓ) : Prop :=
  ∀ c : Dev Cert.Kernel.nD,
    (Cert.Pre_starts_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_starts_fit : Cert.Pre_starts_fit.Facts] (m : (ℓ : Loc Cert.KernelIdeal.nD Cert.KernelIdeal.τ Cert.KernelIdeal.sig) → Buf (Elt Ideal) ℓ) : Prop :=
  ∀ c : Dev Cert.KernelIdeal.nD,
    (Cert.Pre_starts_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_starts_fit [hPre_starts_fit : Cert.Pre_starts_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_starts_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_starts_fit : Cert.Pre_starts_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_starts_fit : Cert.Pre_starts_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_starts_fit [hReferenceIdeal : Cert.ReferenceIdeal.Facts] [hPre_starts_fit : Cert.Pre_starts_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_starts_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_starts_fit : Cert.Pre_starts_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32_15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_starts_fit : Cert.Pre_starts_fit.Facts),
    quiescent_Kernel (hKernel := hKernel) (hPre_starts_fit := hPre_starts_fit)
    ∧ quiescent_KernelIdeal (hKernelIdeal := hKernelIdeal) (hPre_starts_fit := hPre_starts_fit)
    ∧ quiescent_ReferenceIdeal (hReferenceIdeal := hReferenceIdeal)
    ∧ quiescent_ReferenceIdeal_pre_starts_fit (hReferenceIdeal := hReferenceIdeal) (hPre_starts_fit := hPre_starts_fit)
    ∧ preserves_Kernel_KernelIdeal
    ∧ algebraic_KernelIdeal_ReferenceIdeal (hKernelIdeal := hKernelIdeal) (hReferenceIdeal := hReferenceIdeal) (hPre_starts_fit := hPre_starts_fit)
-- ==== Pre_starts_fit.lean ====
abbrev S2752x512 : Shape := ⟨2, ![2752, 512]⟩
abbrev S9 : Shape := ⟨1, ![9]⟩
abbrev S2x8x256 : Shape := ⟨3, ![2, 8, 256]⟩
abbrev S1024x512 : Shape := ⟨2, ![1024, 512]⟩
abbrev S1024x256 : Shape := ⟨2, ![1024, 256]⟩
abbrev S1024 : Shape := ⟨1, ![1024]⟩
abbrev S_ : Shape := ⟨0, ![]⟩
abbrev S1 : Shape := ⟨1, ![1]⟩

class Facts : Prop where
  bcast_S_S9 : S_.BroadcastsInDim S9 (![] : Fin 0 → Fin S9.rank)
  slices_S9_S1_8 : S9.Slices ![8] S1
  shapeCasts_S1_S_ : S1.ShapeCasts S_

variable [Facts]

def fn {F : FTy → Type} [FloatOps F] (main_arg0 : FVec F S2752x512 .f32) (main_arg1 : IVec S9 32) (main_arg2 : FVec F S2x8x256 .f32) (main_arg3 : FVec F S2x8x256 .f32) (main_arg4 : FVec F S1024x512 .f32) (main_arg5 : FVec F S1024x256 .f32) (main_arg6 : FVec F S1024 .f32) (main_arg7 : FVec F S1024 .f32) (main_arg8 : FVec F S1024x256 .f32) (main_arg9 : FVec F S1024x256 .f32) (main_arg10 : FVec F S1024 .f32) (main_arg11 : FVec F S1024 .f32) : IVec S9 1 :=
  let main_c : IVec S_ 32 := constantI S_ 32 0#32
  let main_v0 : IVec S9 32 := broadcastInDim S9 ![] bcast_S_S9 main_c
  let main_v1 : IVec S9 1 := cmpi .sge main_arg1 main_v0
  let main_v2 : IVec S1 32 := (extractStridedSlice S1 ![8] · slices_S9_S1_8) main_arg1
  let main_v3 : IVec S_ 32 := shapeCast S_ main_v2 shapeCasts_S1_S_
  let main_v4 : IVec S9 32 := broadcastInDim S9 ![] bcast_S_S9 main_v3
  let main_v5 : IVec S9 1 := cmpi .sle main_arg1 main_v4
  let main_v6 : IVec S9 1 := andi main_v1 main_v5
  let main_c_0 : IVec S_ 32 := constantI S_ 32 2752#32
  let main_v7 : IVec S9 32 := broadcastInDim S9 ![] bcast_S_S9 main_c_0
  let main_v8 : IVec S9 1 := cmpi .sle main_arg1 main_v7
  let main_v9 : IVec S9 1 := andi main_v6 main_v8
  let main_c_1 : IVec S_ 32 := constantI S_ 32 7#32
  let main_v10 : IVec S9 32 := broadcastInDim S9 ![] bcast_S_S9 main_c_1
  let main_v11 : IVec S9 32 := andi main_arg1 main_v10
  let main_c_2 : IVec S_ 32 := constantI S_ 32 0#32
  let main_v12 : IVec S9 32 := broadcastInDim S9 ![] bcast_S_S9 main_c_2
  let main_v13 : IVec S9 1 := cmpi .eq main_v11 main_v12
  let main_v14 : IVec S9 1 := andi main_v9 main_v13
  main_v14
-- ==== Kernel.lean ====
abbrev S2752x512 : Shape := ⟨2, ![2752, 512]⟩
abbrev S9 : Shape := ⟨1, ![9]⟩
abbrev S2x8x256 : Shape := ⟨3, ![2, 8, 256]⟩
abbrev S1024x512 : Shape := ⟨2, ![1024, 512]⟩
abbrev S1024x256 : Shape := ⟨2, ![1024, 256]⟩
abbrev S1024 : Shape := ⟨1, ![1024]⟩
abbrev S8 : Shape := ⟨1, ![8]⟩
abbrev S8x1 : Shape := ⟨2, ![8, 1]⟩
abbrev S1x1024 : Shape := ⟨2, ![1, 1024]⟩
abbrev S_ : Shape := ⟨0, ![]⟩
abbrev S64x512 : Shape := ⟨2, ![64, 512]⟩
abbrev S2816x512 : Shape := ⟨2, ![2816, 512]⟩
abbrev S512x8x1024 : Shape := ⟨3, ![512, 8, 1024]⟩
abbrev S64x8x1024 : Shape := ⟨3, ![64, 8, 1024]⟩
abbrev S64x8x512 : Shape := ⟨3, ![64, 8, 512]⟩
abbrev S1 : Shape := ⟨1, ![1]⟩
abbrev S64x1x512 : Shape := ⟨3, ![64, 1, 512]⟩
abbrev S512x512 : Shape := ⟨2, ![512, 512]⟩
abbrev S512x1024 : Shape := ⟨2, ![512, 1024]⟩
abbrev S1x8x256 : Shape := ⟨3, ![1, 8, 256]⟩
abbrev S8x256 : Shape := ⟨2, ![8, 256]⟩
abbrev S512x8x256 : Shape := ⟨3, ![512, 8, 256]⟩
abbrev S64x8x256 : Shape := ⟨3, ![64, 8, 256]⟩
abbrev S1x8x1024 : Shape := ⟨3, ![1, 8, 1024]⟩
abbrev S8x1024 : Shape := ⟨2, ![8, 1024]⟩
abbrev S512x256 : Shape := ⟨2, ![512, 256]⟩

abbrev nBuf : Space → Nat
  | .hbm => 36
  | .vmem => 32
  | .smem => 1
  | _ => 0

abbrev bufTy : (tb : Table) → Fin (tcTables nBuf tb) → BufTy
  | .hbm, ⟨0, _⟩ => ⟨S2752x512, .f32⟩
  | .hbm, ⟨1, _⟩ => ⟨S2x8x256, .f32⟩
  | .hbm, ⟨2, _⟩ => ⟨S2x8x256, .f32⟩
  | .hbm, ⟨3, _⟩ => ⟨S1024x512, .f32⟩
  | .hbm, ⟨4, _⟩ => ⟨S1024x256, .f32⟩
  | .hbm, ⟨5, _⟩ => ⟨S1024, .f32⟩
  | .hbm, ⟨6, _⟩ => ⟨S1024, .f32⟩
  | .hbm, ⟨7, _⟩ => ⟨S1024x256, .f32⟩
  | .hbm, ⟨8, _⟩ => ⟨S1024x256, .f32⟩
  | .hbm, ⟨9, _⟩ => ⟨S1024, .f32⟩
  | .hbm, ⟨10, _⟩ => ⟨S1024, .f32⟩
  | .hbm, ⟨11, _⟩ => ⟨S8, .i32⟩
  | .hbm, ⟨12, _⟩ => ⟨S8, .i32⟩
  | .hbm, ⟨13, _⟩ => ⟨S8, .i32⟩
  | .hbm, ⟨14, _⟩ => ⟨S8x1, .i32⟩
  | .hbm, ⟨15, _⟩ => ⟨S1024, .f32⟩
  | .hbm, ⟨16, _⟩ => ⟨S1x1024, .f32⟩
  | .hbm, ⟨17, _⟩ => ⟨S1024, .f32⟩
  | .hbm, ⟨18, _⟩ => ⟨S1x1024, .f32⟩
  | .hbm, ⟨19, _⟩ => ⟨S_, .f32⟩
  | .hbm, ⟨20, _⟩ => ⟨S64x512, .f32⟩
  | .hbm, ⟨21, _⟩ => ⟨S2816x512, .f32⟩
  | .hbm, ⟨22, _⟩ => ⟨S512x8x1024, .f32⟩
  | .hbm, ⟨23, _⟩ => ⟨S1x8x256, .f32⟩
  | .hbm, ⟨24, _⟩ => ⟨S8x256, .f32⟩
  | .hbm, ⟨25, _⟩ => ⟨S1x8x256, .f32⟩
  | .hbm, ⟨26, _⟩ => ⟨S8x256, .f32⟩
  | .hbm, ⟨27, _⟩ => ⟨S1024x256, .bf16⟩
  | .hbm, ⟨28, _⟩ => ⟨S512x8x256, .f32⟩
  | .hbm, ⟨29, _⟩ => ⟨S512x8x1024, .f32⟩
  | .hbm, ⟨30, _⟩ => ⟨S1x8x256, .f32⟩
  | .hbm, ⟨31, _⟩ => ⟨S8x256, .f32⟩
  | .hbm, ⟨32, _⟩ => ⟨S1x8x256, .f32⟩
  | .hbm, ⟨33, _⟩ => ⟨S8x256, .f32⟩
  | .hbm, ⟨34, _⟩ => ⟨S1024x256, .bf16⟩
  | .hbm, ⟨35, _⟩ => ⟨S512x8x256, .f32⟩
  | .local _ .vmem, ⟨0, _⟩ => ⟨S2816x512, .f32⟩
  | .local _ .vmem, ⟨1, _⟩ => ⟨S1024x512, .f32⟩
  | .local _ .vmem, ⟨2, _⟩ => ⟨S1x1024, .f32⟩
  | .local _ .vmem, ⟨3, _⟩ => ⟨S64x8x1024, .f32⟩
  | .local _ .vmem, ⟨4, _⟩ => ⟨S64x8x1024, .f32⟩
  | .local _ .vmem, ⟨5, _⟩ => ⟨S64x8x512, .f32⟩
  | .local _ .vmem, ⟨6, _⟩ => ⟨S64x8x1024, .f32⟩
  | .local _ .vmem, ⟨7, _⟩ => ⟨S64x8x1024, .f32⟩
  | .local _ .vmem, ⟨8, _⟩ => ⟨S1024x256, .bf16⟩
  | .local _ .vmem, ⟨9, _⟩ => ⟨S8x256, .f32⟩
  | .local _ .vmem, ⟨10, _⟩ => ⟨S8x256, .f32⟩
  | .local _ .vmem, ⟨11, _⟩ => ⟨S8x1, .i32⟩
  | .local _ .vmem, ⟨12, _⟩ => ⟨S64x8x256, .f32⟩
  | .local _ .vmem, ⟨13, _⟩ => ⟨S64x8x256, .f32⟩
  | .local _ .vmem, ⟨14, _⟩ => ⟨S8x256, .f32⟩
  | .local _ .vmem, ⟨15, _⟩ => ⟨S8x256, .f32⟩
  | .local _ .vmem, ⟨16, _⟩ => ⟨S64x8x256, .f32⟩
  | .local _ .vmem, ⟨17, _⟩ => ⟨S64x8x256, .f32⟩
  | .local _ .vmem, ⟨18, _⟩ => ⟨S1024x256, .f32⟩
  | .local _ .vmem, ⟨19, _⟩ => ⟨S1x1024, .f32⟩
  | .local _ .vmem, ⟨20, _⟩ => ⟨S64x8x1024, .f32⟩
  | .local _ .vmem, ⟨21, _⟩ => ⟨S64x8x1024, .f32⟩
  | .local _ .vmem, ⟨22, _⟩ => ⟨S64x8x1024, .f32⟩
  | .local _ .vmem, ⟨23, _⟩ => ⟨S64x8x1024, .f32⟩
  | .local _ .vmem, ⟨24, _⟩ => ⟨S1024x256, .bf16⟩
  | .local _ .vmem, ⟨25, _⟩ => ⟨S8x256, .f32⟩
  | .local _ .vmem, ⟨26, _⟩ => ⟨S8x256, .f32⟩
  | .local _ .vmem, ⟨27, _⟩ => ⟨S8x1, .i32⟩
  | .local _ .vmem, ⟨28, _⟩ => ⟨S64x8x256, .f32⟩
  | .local _ .vmem, ⟨29, _⟩ => ⟨S64x8x256, .f32⟩
  | .local _ .vmem, ⟨30, _⟩ => ⟨S8x256, .f32⟩
  | .local _ .vmem, ⟨31, _⟩ => ⟨S8x256, .f32⟩
  | .local _ .smem, ⟨0, _⟩ => ⟨S9, .i32⟩
  | _, _ => ⟨S2752x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_arg11 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_arg1 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg4_0 : Ref sig .tc := ⟨.vmem, 27, rfl⟩
abbrev cc3_stg5_0 : Ref sig .tc := ⟨.vmem, 28, rfl⟩
abbrev cc3_stg5_1 : Ref sig .tc := ⟨.vmem, 29, rfl⟩
abbrev cc3_scratch0 : Ref sig .tc := ⟨.vmem, 30, rfl⟩
abbrev cc3_scratch1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem5_1 : DmaSem sig := 26

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_mult1 (i : grid0.Coords) (v0 : BitVec 32) (v1 : BitVec 32) : BitVec 32 :=
  let arg0 : BitVec 32 := BitVec.ofNat 32 (i 0).val
  let c64_i32 : BitVec 32 := 64#32
  let v2 : BitVec 32 := Scalar.muli arg0 c64_i32
  let v3 : BitVec 32 := Scalar.addi v1 v2
  let v4 : BitVec 32 := Scalar.minsi v3 v0
  v4

def k0_off1 (i : grid0.Coords) (v0 : BitVec 32) (v1 : BitVec 32) : Fin 2 → Nat :=
  let arg0 : BitVec 32 := BitVec.ofNat 32 (i 0).val
  let c64_i32 : BitVec 32 := 64#32
  let v2 : BitVec 32 := Scalar.muli arg0 c64_i32
  let v3 : BitVec 32 := Scalar.addi v1 v2
  let v4 : BitVec 32 := Scalar.minsi v3 v0
  let v5 : BitVec 32 := v4
  let v6 : Index := Scalar.indexCast v5
  let c0_0 : Index := 0#32
  ![v6.toNat, 0]

def k0_chk1 (i : grid0.Coords) (v0 : BitVec 32) (v1 : BitVec 32) : Prop :=
  (8 ∣ (k0_mult1 i v0 v1).toNat) ∧
  (∀ a, (k0_off1 i v0 v1) a + S64x512.size a ≤ S2816x512.size a)
theorem k0_mult1_dvd : ∀ (i : grid0.Coords) (v0 : BitVec 32) (v1 : BitVec 32) (k0_hw1 : k0_chk1 i v0 v1), 8 ∣ (k0_mult1 i v0 v1).toNat := fun i v0 v1 k0_hw1 => k0_hw1.1
theorem k0_off1_inb : ∀ (i : grid0.Coords) (v0 : BitVec 32) (v1 : BitVec 32) (k0_hw1 : k0_chk1 i v0 v1), ∀ a, (k0_off1 i v0 v1) a + S64x512.size a ≤ S2816x512.size a := fun i v0 v1 k0_hw1 => k0_hw1.2

def k0_mult2 (i : grid0.Coords) (v0 : BitVec 32) (v12 : BitVec 32) : BitVec 32 :=
  let arg0 : BitVec 32 := BitVec.ofNat 32 (i 0).val
  let c64_i32_4 : BitVec 32 := 64#32
  let v13 : BitVec 32 := Scalar.muli arg0 c64_i32_4
  let v14 : BitVec 32 := Scalar.addi v12 v13
  let v15 : BitVec 32 := Scalar.minsi v14 v0
  v15

def k0_off2 (i : grid0.Coords) (v0 : BitVec 32) (v12 : BitVec 32) : Fin 2 → Nat :=
  let arg0 : BitVec 32 := BitVec.ofNat 32 (i 0).val
  let c64_i32_4 : BitVec 32 := 64#32
  let v13 : BitVec 32 := Scalar.muli arg0 c64_i32_4
  let v14 : BitVec 32 := Scalar.addi v12 v13
  let v15 : BitVec 32 := Scalar.minsi v14 v0
  let v16 : BitVec 32 := v15
  let v17 : Index := Scalar.indexCast v16
  let c0_5 : Index := 0#32
  ![v17.toNat, 0]

def k0_chk2 (i : grid0.Coords) (v0 : BitVec 32) (v12 : BitVec 32) : Prop :=
  (8 ∣ (k0_mult2 i v0 v12).toNat) ∧
  (∀ a, (k0_off2 i v0 v12) a + S64x512.size a ≤ S2816x512.size a)
theorem k0_mult2_dvd : ∀ (i : grid0.Coords) (v0 : BitVec 32) (v12 : BitVec 32) (k0_hw2 : k0_chk2 i v0 v12), 8 ∣ (k0_mult2 i v0 v12).toNat := fun i v0 v12 k0_hw2 => k0_hw2.1
theorem k0_off2_inb : ∀ (i : grid0.Coords) (v0 : BitVec 32) (v12 : BitVec 32) (k0_hw2 : k0_chk2 i v0 v12), ∀ a, (k0_off2 i v0 v12) a + S64x512.size a ≤ S2816x512.size a := fun i v0 v12 k0_hw2 => k0_hw2.2

def k0_mult3 (i : grid0.Coords) (v0 : BitVec 32) (v23 : BitVec 32) : BitVec 32 :=
  let arg0 : BitVec 32 := BitVec.ofNat 32 (i 0).val
  let c64_i32_9 : BitVec 32 := 64#32
  let v24 : BitVec 32 := Scalar.muli arg0 c64_i32_9
  let v25 : BitVec 32 := Scalar.addi v23 v24
  let v26 : BitVec 32 := Scalar.minsi v25 v0
  v26

def k0_off3 (i : grid0.Coords) (v0 : BitVec 32) (v23 : BitVec 32) : Fin 2 → Nat :=
  let arg0 : BitVec 32 := BitVec.ofNat 32 (i 0).val
  let c64_i32_9 : BitVec 32 := 64#32
  let v24 : BitVec 32 := Scalar.muli arg0 c64_i32_9
  let v25 : BitVec 32 := Scalar.addi v23 v24
  let v26 : BitVec 32 := Scalar.minsi v25 v0
  let v27 : BitVec 32 := v26
  let v28 : Index := Scalar.indexCast v27
  let c0_10 : Index := 0#32
  ![v28.toNat, 0]

def k0_chk3 (i : grid0.Coords) (v0 : BitVec 32) (v23 : BitVec 32) : Prop :=
  (8 ∣ (k0_mult3 i v0 v23).toNat) ∧
  (∀ a, (k0_off3 i v0 v23) a + S64x512.size a ≤ S2816x512.size a)
theorem k0_mult3_dvd : ∀ (i : grid0.Coords) (v0 : BitVec 32) (v23 : BitVec 32) (k0_hw3 : k0_chk3 i v0 v23), 8 ∣ (k0_mult3 i v0 v23).toNat := fun i v0 v23 k0_hw3 => k0_hw3.1
theorem k0_off3_inb : ∀ (i : grid0.Coords) (v0 : BitVec 32) (v23 : BitVec 32) (k0_hw3 : k0_chk3 i v0 v23), ∀ a, (k0_off3 i v0 v23) a + S64x512.size a ≤ S2816x512.size a := fun i v0 v23 k0_hw3 => k0_hw3.2

def k0_mult4 (i : grid0.Coords) (v0 : BitVec 32) (v34 : BitVec 32) : BitVec 32 :=
  let arg0 : BitVec 32 := BitVec.ofNat 32 (i 0).val
  let c64_i32_14 : BitVec 32 := 64#32
  let v35 : BitVec 32 := Scalar.muli arg0 c64_i32_14
  let v36 : BitVec 32 := Scalar.addi v34 v35
  let v37 : BitVec 32 := Scalar.minsi v36 v0
  v37

def k0_off4 (i : grid0.Coords) (v0 : BitVec 32) (v34 : BitVec 32) : Fin 2 → Nat :=
  let arg0 : BitVec 32 := BitVec.ofNat 32 (i 0).val
  let c64_i32_14 : BitVec 32 := 64#32
  let v35 : BitVec 32 := Scalar.muli arg0 c64_i32_14
  let v36 : BitVec 32 := Scalar.addi v34 v35
  let v37 : BitVec 32 := Scalar.minsi v36 v0
  let v38 : BitVec 32 := v37
  let v39 : Index := Scalar.indexCast v38
  let c0_15 : Index := 0#32
  ![v39.toNat, 0]

def k0_chk4 (i : grid0.Coords) (v0 : BitVec 32) (v34 : BitVec 32) : Prop :=
  (8 ∣ (k0_mult4 i v0 v34).toNat) ∧
  (∀ a, (k0_off4 i v0 v34) a + S64x512.size a ≤ S2816x512.size a)
theorem k0_mult4_dvd : ∀ (i : grid0.Coords) (v0 : BitVec 32) (v34 : BitVec 32) (k0_hw4 : k0_chk4 i v0 v34), 8 ∣ (k0_mult4 i v0 v34).toNat := fun i v0 v34 k0_hw4 => k0_hw4.1
theorem k0_off4_inb : ∀ (i : grid0.Coords) (v0 : BitVec 32) (v34 : BitVec 32) (k0_hw4 : k0_chk4 i v0 v34), ∀ a, (k0_off4 i v0 v34) a + S64x512.size a ≤ S2816x512.size a := fun i v0 v34 k0_hw4 => k0_hw4.2

def k0_mult5 (i : grid0.Coords) (v0 : BitVec 32) (v45 : BitVec 32) : BitVec 32 :=
  let arg0 : BitVec 32 := BitVec.ofNat 32 (i 0).val
  let c64_i32_19 : BitVec 32 := 64#32
  let v46 : BitVec 32 := Scalar.muli arg0 c64_i32_19
  let v47 : BitVec 32 := Scalar.addi v45 v46
  let v48 : BitVec 32 := Scalar.minsi v47 v0
  v48

def k0_off5 (i : grid0.Coords) (v0 : BitVec 32) (v45 : BitVec 32) : Fin 2 → Nat :=
  let arg0 : BitVec 32 := BitVec.ofNat 32 (i 0).val
  let c64_i32_19 : BitVec 32 := 64#32
  let v46 : BitVec 32 := Scalar.muli arg0 c64_i32_19
  let v47 : BitVec 32 := Scalar.addi v45 v46
  let v48 : BitVec 32 := Scalar.minsi v47 v0
  let v49 : BitVec 32 := v48
  let v50 : Index := Scalar.indexCast v49
  let c0_20 : Index := 0#32
  ![v50.toNat, 0]

def k0_chk5 (i : grid0.Coords) (v0 : BitVec 32) (v45 : BitVec 32) : Prop :=
  (8 ∣ (k0_mult5 i v0 v45).toNat) ∧
  (∀ a, (k0_off5 i v0 v45) a + S64x512.size a ≤ S2816x512.size a)
theorem k0_mult5_dvd : ∀ (i : grid0.Coords) (v0 : BitVec 32) (v45 : BitVec 32) (k0_hw5 : k0_chk5 i v0 v45), 8 ∣ (k0_mult5 i v0 v45).toNat := fun i v0 v45 k0_hw5 => k0_hw5.1
theorem k0_off5_inb : ∀ (i : grid0.Coords) (v0 : BitVec 32) (v45 : BitVec 32) (k0_hw5 : k0_chk5 i v0 v45), ∀ a, (k0_off5 i v0 v45) a + S64x512.size a ≤ S2816x512.size a := fun i v0 v45 k0_hw5 => k0_hw5.2

def k0_mult6 (i : grid0.Coords) (v0 : BitVec 32) (v56 : BitVec 32) : BitVec 32 :=
  let arg0 : BitVec 32 := BitVec.ofNat 32 (i 0).val
  let c64_i32_24 : BitVec 32 := 64#32
  let v57 : BitVec 32 := Scalar.muli arg0 c64_i32_24
  let v58 : BitVec 32 := Scalar.addi v56 v57
  let v59 : BitVec 32 := Scalar.minsi v58 v0
  v59

def k0_off6 (i : grid0.Coords) (v0 : BitVec 32) (v56 : BitVec 32) : Fin 2 → Nat :=
  let arg0 : BitVec 32 := BitVec.ofNat 32 (i 0).val
  let c64_i32_24 : BitVec 32 := 64#32
  let v57 : BitVec 32 := Scalar.muli arg0 c64_i32_24
  let v58 : BitVec 32 := Scalar.addi v56 v57
  let v59 : BitVec 32 := Scalar.minsi v58 v0
  let v60 : BitVec 32 := v59
  let v61 : Index := Scalar.indexCast v60
  let c0_25 : Index := 0#32
  ![v61.toNat, 0]

def k0_chk6 (i : grid0.Coords) (v0 : BitVec 32) (v56 : BitVec 32) : Prop :=
  (8 ∣ (k0_mult6 i v0 v56).toNat) ∧
  (∀ a, (k0_off6 i v0 v56) a + S64x512.size a ≤ S2816x512.size a)
theorem k0_mult6_dvd : ∀ (i : grid0.Coords) (v0 : BitVec 32) (v56 : BitVec 32) (k0_hw6 : k0_chk6 i v0 v56), 8 ∣ (k0_mult6 i v0 v56).toNat := fun i v0 v56 k0_hw6 => k0_hw6.1
theorem k0_off6_inb : ∀ (i : grid0.Coords) (v0 : BitVec 32) (v56 : BitVec 32) (k0_hw6 : k0_chk6 i v0 v56), ∀ a, (k0_off6 i v0 v56) a + S64x512.size a ≤ S2816x512.size a := fun i v0 v56 k0_hw6 => k0_hw6.2

def k0_mult7 (i : grid0.Coords) (v0 : BitVec 32) (v67 : BitVec 32) : BitVec 32 :=
  let arg0 : BitVec 32 := BitVec.ofNat 32 (i 0).val
  let c64_i32_29 : BitVec 32 := 64#32
  let v68 : BitVec 32 := Scalar.muli arg0 c64_i32_29
  let v69 : BitVec 32 := Scalar.addi v67 v68
  let v70 : BitVec 32 := Scalar.minsi v69 v0
  v70

def k0_off7 (i : grid0.Coords) (v0 : BitVec 32) (v67 : BitVec 32) : Fin 2 → Nat :=
  let arg0 : BitVec 32 := BitVec.ofNat 32 (i 0).val
  let c64_i32_29 : BitVec 32 := 64#32
  let v68 : BitVec 32 := Scalar.muli arg0 c64_i32_29
  let v69 : BitVec 32 := Scalar.addi v67 v68
  let v70 : BitVec 32 := Scalar.minsi v69 v0
  let v71 : BitVec 32 := v70
  let v72 : Index := Scalar.indexCast v71
  let c0_30 : Index := 0#32
  ![v72.toNat, 0]

def k0_chk7 (i : grid0.Coords) (v0 : BitVec 32) (v67 : BitVec 32) : Prop :=
  (8 ∣ (k0_mult7 i v0 v67).toNat) ∧
  (∀ a, (k0_off7 i v0 v67) a + S64x512.size a ≤ S2816x512.size a)
theorem k0_mult7_dvd : ∀ (i : grid0.Coords) (v0 : BitVec 32) (v67 : BitVec 32) (k0_hw7 : k0_chk7 i v0 v67), 8 ∣ (k0_mult7 i v0 v67).toNat := fun i v0 v67 k0_hw7 => k0_hw7.1
theorem k0_off7_inb : ∀ (i : grid0.Coords) (v0 : BitVec 32) (v67 : BitVec 32) (k0_hw7 : k0_chk7 i v0 v67), ∀ a, (k0_off7 i v0 v67) a + S64x512.size a ≤ S2816x512.size a := fun i v0 v67 k0_hw7 => k0_hw7.2

def k0_mult8 (i : grid0.Coords) (v0 : BitVec 32) (v78 : BitVec 32) : BitVec 32 :=
  let arg0 : BitVec 32 := BitVec.ofNat 32 (i 0).val
  let c64_i32_34 : BitVec 32 := 64#32
  let v79 : BitVec 32 := Scalar.muli arg0 c64_i32_34
  let v80 : BitVec 32 := Scalar.addi v78 v79
  let v81 : BitVec 32 := Scalar.minsi v80 v0
  v81

def k0_off8 (i : grid0.Coords) (v0 : BitVec 32) (v78 : BitVec 32) : Fin 2 → Nat :=
  let arg0 : BitVec 32 := BitVec.ofNat 32 (i 0).val
  let c64_i32_34 : BitVec 32 := 64#32
  let v79 : BitVec 32 := Scalar.muli arg0 c64_i32_34
  let v80 : BitVec 32 := Scalar.addi v78 v79
  let v81 : BitVec 32 := Scalar.minsi v80 v0
  let v82 : BitVec 32 := v81
  let v83 : Index := Scalar.indexCast v82
  let c0_35 : Index := 0#32
  ![v83.toNat, 0]

def k0_chk8 (i : grid0.Coords) (v0 : BitVec 32) (v78 : BitVec 32) : Prop :=
  (8 ∣ (k0_mult8 i v0 v78).toNat) ∧
  (∀ a, (k0_off8 i v0 v78) a + S64x512.size a ≤ S2816x512.size a)
theorem k0_mult8_dvd : ∀ (i : grid0.Coords) (v0 : BitVec 32) (v78 : BitVec 32) (k0_hw8 : k0_chk8 i v0 v78), 8 ∣ (k0_mult8 i v0 v78).toNat := fun i v0 v78 k0_hw8 => k0_hw8.1
theorem k0_off8_inb : ∀ (i : grid0.Coords) (v0 : BitVec 32) (v78 : BitVec 32) (k0_hw8 : k0_chk8 i v0 v78), ∀ a, (k0_off8 i v0 v78) a + S64x512.size a ≤ S2816x512.size a := fun i v0 v78 k0_hw8 => k0_hw8.2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2816x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

@[reducible] def k1_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k1_off1 (k1_t1 : Fin k1_t1_loop.trips) : Fin 3 → Nat :=
  let c0_i32_2 : BitVec 32 := 0#32
  let c1_i32 : BitVec 32 := 1#32
  let arg9 : BitVec 32 := Scf.iv c0_i32_2 c1_i32 k1_t1
  let v6 : Index := Scalar.indexCast arg9
  let c0_4 : Index := 0#32
  let c0_5 : Index := 0#32
  ![v6.toNat, 0, 0]
def k1_off2 (k1_t1 : Fin k1_t1_loop.trips) : Fin 3 → Nat :=
  let c0_i32_2 : BitVec 32 := 0#32
  let c1_i32 : BitVec 32 := 1#32
  let arg9 : BitVec 32 := Scf.iv c0_i32_2 c1_i32 k1_t1
  let v32 : Index := Scalar.indexCast arg9
  let c0_14 : Index := 0#32
  let c0_15 : Index := 0#32
  ![v32.toNat, 0, 0]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S64x8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S8x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S64x8x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S64x8x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S64x8x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

@[reducible] def k3_t1_loop : Scf.Loop 32 :=
  let c0_i32_2 : BitVec 32 := 0#32
  let c64_i32 : BitVec 32 := 64#32
  let v5 : BitVec 32 := Scalar.addi c0_i32_2 c64_i32
  let c1_i32 : BitVec 32 := 1#32
  ⟨c0_i32_2, v5, c1_i32⟩
def k3_off1 (k3_t1 : Fin k3_t1_loop.trips) : Fin 3 → Nat :=
  let c0_i32_2 : BitVec 32 := 0#32
  let c1_i32 : BitVec 32 := 1#32
  let arg9 : BitVec 32 := Scf.iv c0_i32_2 c1_i32 k3_t1
  let v6 : Index := Scalar.indexCast arg9
  let c0_4 : Index := 0#32
  let c0_5 : Index := 0#32
  ![v6.toNat, 0, 0]
def k3_off2 (k3_t1 : Fin k3_t1_loop.trips) : Fin 3 → Nat :=
  let c0_i32_2 : BitVec 32 := 0#32
  let c1_i32 : BitVec 32 := 1#32
  let arg9 : BitVec 32 := Scf.iv c0_i32_2 c1_i32 k3_t1
  let v42 : Index := Scalar.indexCast arg9
  let c0_17 : Index := 0#32
  let c0_18 : Index := 0#32
  ![v42.toNat, 0, 0]
def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S64x8x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1024x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S8x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S8x1 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S64x8x256 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S2752x512 : Shape := ⟨2, ![2752, 512]⟩
abbrev S9 : Shape := ⟨1, ![9]⟩
abbrev S2x8x256 : Shape := ⟨3, ![2, 8, 256]⟩
abbrev S1024x512 : Shape := ⟨2, ![1024, 512]⟩
abbrev S1024x256 : Shape := ⟨2, ![1024, 256]⟩
abbrev S1024 : Shape := ⟨1, ![1024]⟩
abbrev S8 : Shape := ⟨1, ![8]⟩
abbrev S512 : Shape := ⟨1, ![512]⟩
abbrev S8x1 : Shape := ⟨2, ![8, 1]⟩
abbrev S1x512 : Shape := ⟨2, ![1, 512]⟩
abbrev S8x512 : Shape := ⟨2, ![8, 512]⟩
abbrev S_ : Shape := ⟨0, ![]⟩
abbrev S8x512x1 : Shape := ⟨3, ![8, 512, 1]⟩
abbrev S1 : Shape := ⟨1, ![1]⟩
abbrev S1x1x1 : Shape := ⟨3, ![1, 1, 1]⟩
abbrev S8x512x512 : Shape := ⟨3, ![8, 512, 512]⟩
abbrev S512x8x512 : Shape := ⟨3, ![512, 8, 512]⟩
abbrev S512x8 : Shape := ⟨2, ![512, 8]⟩
abbrev S1x8x256 : Shape := ⟨3, ![1, 8, 256]⟩
abbrev S8x256 : Shape := ⟨2, ![8, 256]⟩
abbrev S512x8x256 : Shape := ⟨3, ![512, 8, 256]⟩
abbrev S1x8x512 : Shape := ⟨3, ![1, 8, 512]⟩
abbrev S1x8 : Shape := ⟨2, ![1, 8]⟩
abbrev S512x1024 : Shape := ⟨2, ![512, 1024]⟩
abbrev S8x1024 : Shape := ⟨2, ![8, 1024]⟩
abbrev S1x1024 : Shape := ⟨2, ![1, 1024]⟩
abbrev S256x1024 : Shape := ⟨2, ![256, 1024]⟩

abbrev nBuf : Space → Nat
  | .hbm => 228
  | .vmem => 0
  | .smem => 0
  | _ => 0

abbrev hbmTy0_0 (i : Nat) : BufTy := match i % 128 with
  | 0 => ⟨S2752x512, .f32⟩
  | 1 => ⟨S9, .i32⟩
  | 2 => ⟨S2x8x256, .f32⟩
  | 3 => ⟨S2x8x256, .f32⟩
  | 4 => ⟨S1024x512, .f32⟩
  | 5 => ⟨S1024x256, .f32⟩
  | 6 => ⟨S1024, .f32⟩
  | 7 => ⟨S1024, .f32⟩
  | 8 => ⟨S1024x256, .f32⟩
  | 9 => ⟨S1024x256, .f32⟩
  | 10 => ⟨S1024, .f32⟩
  | 11 => ⟨S1024, .f32⟩
  | 12 => ⟨S8, .i32⟩
  | 13 => ⟨S8, .i32⟩
  | 14 => ⟨S8, .i32⟩
  | 15 => ⟨S512, .i32⟩
  | 16 => ⟨S8, .i32⟩
  | 17 => ⟨S8x1, .i32⟩
  | 18 => ⟨S1x512, .i32⟩
  | 19 => ⟨S8x512, .i32⟩
  | 20 => ⟨S8x512, .i32⟩
  | 21 => ⟨S8x512, .i32⟩
  | 22 => ⟨S1x512, .i32⟩
  | 23 => ⟨S8x1, .i32⟩
  | 24 => ⟨S8x512, .i32⟩
  | 25 => ⟨S8x512, .i32⟩
  | 26 => ⟨S8x512, .i1⟩
  | 27 => ⟨S_, .i32⟩
  | 28 => ⟨S_, .i32⟩
  | 29 => ⟨S8x512, .i32⟩
  | 30 => ⟨S8x512, .i32⟩
  | 31 => ⟨S_, .i32⟩
  | 32 => ⟨S8x512, .i32⟩
  | 33 => ⟨S8x512, .i1⟩
  | 34 => ⟨S_, .i32⟩
  | 35 => ⟨S8x512, .i32⟩
  | 36 => ⟨S8x512, .i32⟩
  | 37 => ⟨S8x512, .i32⟩
  | 38 => ⟨S8x512x1, .i32⟩
  | 39 => ⟨S1, .i32⟩
  | 40 => ⟨S_, .i32⟩
  | 41 => ⟨S8x512x1, .i32⟩
  | 42 => ⟨S8x512x1, .i1⟩
  | 43 => ⟨S1x1x1, .i32⟩
  | 44 => ⟨S8x512x1, .i32⟩
  | 45 => ⟨S8x512x1, .i1⟩
  | 46 => ⟨S8x512x1, .i1⟩
  | 47 => ⟨S_, .i1⟩
  | 48 => ⟨S8x512, .i1⟩
  | 49 => ⟨S8x512x512, .f32⟩
  | 50 => ⟨S8x512x512, .i1⟩
  | 51 => ⟨S_, .f32⟩
  | 52 => ⟨S8x512x512, .f32⟩
  | 53 => ⟨S8x512x512, .f32⟩
  | 54 => ⟨S8x512x1, .i1⟩
  | 55 => ⟨S8x512x1, .f32⟩
  | 56 => ⟨S8x512x512, .f32⟩
  | 57 => ⟨S8x512x512, .f32⟩
  | 58 => ⟨S512x8x512, .f32⟩
  | 59 => ⟨S512x8, .i1⟩
  | 60 => ⟨S1x8x256, .f32⟩
  | 61 => ⟨S8x256, .f32⟩
  | 62 => ⟨S1x8x256, .f32⟩
  | 63 => ⟨S8x256, .f32⟩
  | 64 => ⟨S1x8x256, .f32⟩
  | 65 => ⟨S8x256, .f32⟩
  | 66 => ⟨S1x8x256, .f32⟩
  | 67 => ⟨S8x256, .f32⟩
  | 68 => ⟨S_, .f32⟩
  | 69 => ⟨S512x8x256, .f32⟩
  | 70 => ⟨S_, .i32⟩
  | 71 => ⟨S512x8x512, .f32⟩
  | 72 => ⟨S512x8, .i1⟩
  | 73 => ⟨S1024x512, .f32⟩
  | 74 => ⟨S1024, .f32⟩
  | 75 => ⟨S1024x256, .f32⟩
  | 76 => ⟨S1024, .f32⟩
  | 77 => ⟨S1024x256, .f32⟩
  | 78 => ⟨S1024, .f32⟩
  | 79 => ⟨S1024x256, .f32⟩
  | 80 => ⟨S1024, .f32⟩
  | 81 => ⟨S_, .i32⟩
  | 82 => ⟨S8x256, .f32⟩
  | 83 => ⟨S8x256, .f32⟩
  | 84 => ⟨S8x256, .f32⟩
  | 85 => ⟨S8x256, .f32⟩
  | 86 => ⟨S512x8x256, .f32⟩
  | 87 => ⟨S_, .i32⟩
  | 88 => ⟨S_, .i1⟩
  | 89 => ⟨S_, .i32⟩
  | 90 => ⟨S_, .i32⟩
  | 91 => ⟨S1x8x512, .f32⟩
  | 92 => ⟨S8x512, .f32⟩
  | 93 => ⟨S_, .i32⟩
  | 94 => ⟨S1x8, .i1⟩
  | 95 => ⟨S8, .i1⟩
  | 96 => ⟨S8x1, .i1⟩
  | 97 => ⟨S8x1, .f32⟩
  | 98 => ⟨S512x1024, .f32⟩
  | 99 => ⟨S8x1024, .f32⟩
  | 100 => ⟨S1x1024, .f32⟩
  | 101 => ⟨S8x1024, .f32⟩
  | 102 => ⟨S8x1024, .f32⟩
  | 103 => ⟨S256x1024, .f32⟩
  | 104 => ⟨S8x1024, .f32⟩
  | 105 => ⟨S8x1024, .f32⟩
  | 106 => ⟨S1x1024, .f32⟩
  | 107 => ⟨S8x1024, .f32⟩
  | 108 => ⟨S8x1024, .f32⟩
  | 109 => ⟨S8x256, .f32⟩
  | 110 => ⟨S8x256, .f32⟩
  | 111 => ⟨S8x256, .f32⟩
  | 112 => ⟨S8x256, .f32⟩
  | 113 => ⟨S8x256, .f32⟩
  | 114 => ⟨S8x256, .f32⟩
  | 115 => ⟨S_, .f32⟩
  | 116 => ⟨S8x256, .f32⟩
  | 117 => ⟨S8x256, .f32⟩
  | 118 => ⟨S_, .f32⟩
  | 119 => ⟨S8x256, .f32⟩
  | 120 => ⟨S8x256, .f32⟩
  | 121 => ⟨S8x256, .f32⟩
  | 122 => ⟨S8x256, .f32⟩
  | 123 => ⟨S_, .f32⟩
  | 124 => ⟨S8x256, .f32⟩
  | 125 => ⟨S8x256, .f32⟩
  | 126 => ⟨S_, .f32⟩
  | 127 => ⟨S8x256, .f32⟩
  | _ => ⟨S2752x512, .f32⟩

abbrev hbmTy0_1 (i : Nat) : BufTy := match i % 128 with
  | 0 => ⟨S8x256, .f32⟩
  | 1 => ⟨S8x256, .f32⟩
  | 2 => ⟨S8x256, .f32⟩
  | 3 => ⟨S8x256, .f32⟩
  | 4 => ⟨S_, .f32⟩
  | 5 => ⟨S8x256, .f32⟩
  | 6 => ⟨S8x256, .f32⟩
  | 7 => ⟨S_, .f32⟩
  | 8 => ⟨S8x256, .f32⟩
  | 9 => ⟨S8x256, .f32⟩
  | 10 => ⟨S8x256, .f32⟩
  | 11 => ⟨S8x256, .f32⟩
  | 12 => ⟨S8x256, .f32⟩
  | 13 => ⟨S8x256, .f32⟩
  | 14 => ⟨S8x256, .f32⟩
  | 15 => ⟨S8x256, .f32⟩
  | 16 => ⟨S8x256, .f32⟩
  | 17 => ⟨S_, .f32⟩
  | 18 => ⟨S8x1, .f32⟩
  | 19 => ⟨S8x1, .f32⟩
  | 20 => ⟨S8x256, .f32⟩
  | 21 => ⟨S8x256, .f32⟩
  | 22 => ⟨S8x256, .f32⟩
  | 23 => ⟨S8x256, .f32⟩
  | 24 => ⟨S8x256, .f32⟩
  | 25 => ⟨S_, .f32⟩
  | 26 => ⟨S8x1, .f32⟩
  | 27 => ⟨S8x1, .f32⟩
  | 28 => ⟨S8x256, .f32⟩
  | 29 => ⟨S8x256, .f32⟩
  | 30 => ⟨S8x256, .f32⟩
  | 31 => ⟨S256x1024, .f32⟩
  | 32 => ⟨S8x1024, .f32⟩
  | 33 => ⟨S1x1024, .f32⟩
  | 34 => ⟨S8x1024, .f32⟩
  | 35 => ⟨S8x1024, .f32⟩
  | 36 => ⟨S256x1024, .f32⟩
  | 37 => ⟨S8x1024, .f32⟩
  | 38 => ⟨S8x1024, .f32⟩
  | 39 => ⟨S1x1024, .f32⟩
  | 40 => ⟨S8x1024, .f32⟩
  | 41 => ⟨S8x1024, .f32⟩
  | 42 => ⟨S8x256, .f32⟩
  | 43 => ⟨S8x256, .f32⟩
  | 44 => ⟨S8x256, .f32⟩
  | 45 => ⟨S8x256, .f32⟩
  | 46 => ⟨S8x256, .f32⟩
  | 47 => ⟨S8x256, .f32⟩
  | 48 => ⟨S_, .f32⟩
  | 49 => ⟨S8x256, .f32⟩
  | 50 => ⟨S8x256, .f32⟩
  | 51 => ⟨S_, .f32⟩
  | 52 => ⟨S8x256, .f32⟩
  | 53 => ⟨S8x256, .f32⟩
  | 54 => ⟨S8x256, .f32⟩
  | 55 => ⟨S8x256, .f32⟩
  | 56 => ⟨S_, .f32⟩
  | 57 => ⟨S8x256, .f32⟩
  | 58 => ⟨S8x256, .f32⟩
  | 59 => ⟨S_, .f32⟩
  | 60 => ⟨S8x256, .f32⟩
  | 61 => ⟨S8x256, .f32⟩
  | 62 => ⟨S8x256, .f32⟩
  | 63 => ⟨S8x256, .f32⟩
  | 64 => ⟨S8x256, .f32⟩
  | 65 => ⟨S_, .f32⟩
  | 66 => ⟨S8x256, .f32⟩
  | 67 => ⟨S8x256, .f32⟩
  | 68 => ⟨S_, .f32⟩
  | 69 => ⟨S8x256, .f32⟩
  | 70 => ⟨S8x256, .f32⟩
  | 71 => ⟨S8x256, .f32⟩
  | 72 => ⟨S8x256, .f32⟩
  | 73 => ⟨S8x256, .f32⟩
  | 74 => ⟨S8x256, .f32⟩
  | 75 => ⟨S8x256, .f32⟩
  | 76 => ⟨S8x256, .f32⟩
  | 77 => ⟨S8x256, .f32⟩
  | 78 => ⟨S_, .f32⟩
  | 79 => ⟨S8x1, .f32⟩
  | 80 => ⟨S8x1, .f32⟩
  | 81 => ⟨S8x256, .f32⟩
  | 82 => ⟨S8x256, .f32⟩
  | 83 => ⟨S8x256, .f32⟩
  | 84 => ⟨S8x256, .f32⟩
  | 85 => ⟨S8x256, .f32⟩
  | 86 => ⟨S_, .f32⟩
  | 87 => ⟨S8x1, .f32⟩
  | 88 => ⟨S8x1, .f32⟩
  | 89 => ⟨S8x256, .f32⟩
  | 90 => ⟨S8x256, .f32⟩
  | 91 => ⟨S8x256, .f32⟩
  | 92 => ⟨S8x256, .f32⟩
  | 93 => ⟨S8x256, .f32⟩
  | 94 => ⟨S1x8x256, .f32⟩
  | 95 => ⟨S_, .i32⟩
  | 96 => ⟨S_, .i32⟩
  | 97 => ⟨S512x8x256, .f32⟩
  | 98 => ⟨S_, .i32⟩
  | 99 => ⟨S_, .i32⟩
  | _ => ⟨S2752x512, .f32⟩

abbrev hbmTy (i : Nat) : BufTy := match i / 128 with
  | 0 => hbmTy0_0 i
  | 1 => hbmTy0_1 i
  | _ => ⟨S2752x512, .f32⟩

abbrev bufTy : (tb : Table) → Fin (tcTables nBuf tb) → BufTy
  | .hbm, ⟨i, _⟩ => hbmTy i
  | _, _ => ⟨S2752x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_cst : Ref sig .tc := ⟨.hbm, 68, rfl⟩
abbrev main_v31 : Ref sig .tc := ⟨.hbm, 69, rfl⟩
abbrev main_c_0 : Ref sig .tc := ⟨.hbm, 70, rfl⟩
abbrev main_v32_0 : Ref sig .tc := ⟨.hbm, 71, rfl⟩
abbrev main_v32_1 : Ref sig .tc := ⟨.hbm, 72, rfl⟩
abbrev main_v32_2 : Ref sig .tc := ⟨.hbm, 73, rfl⟩
abbrev main_v32_3 : Ref sig .tc := ⟨.hbm, 74, rfl⟩
abbrev main_v32_4 : Ref sig .tc := ⟨.hbm, 75, rfl⟩
abbrev main_v32_5 : Ref sig .tc := ⟨.hbm, 76, rfl⟩
abbrev main_v32_6 : Ref sig .tc := ⟨.hbm, 77, rfl⟩
abbrev main_v32_7 : Ref sig .tc := ⟨.hbm, 78, rfl⟩
abbrev main_v32_8 : Ref sig .tc := ⟨.hbm, 79, rfl⟩
abbrev main_v32_9 : Ref sig .tc := ⟨.hbm, 80, rfl⟩
abbrev main_v32_10 : Ref sig .tc := ⟨.hbm, 81, rfl⟩
abbrev main_v32_11 : Ref sig .tc := ⟨.hbm, 82, rfl⟩
abbrev main_v32_12 : Ref sig .tc := ⟨.hbm, 83, rfl⟩
abbrev main_v32_13 : Ref sig .tc := ⟨.hbm, 84, rfl⟩
abbrev main_v32_14 : Ref sig .tc := ⟨.hbm, 85, rfl⟩
abbrev main_v32_15 : Ref sig .tc := ⟨.hbm, 86, rfl⟩
abbrev main_while0c_c_16 : Ref sig .tc := ⟨.hbm, 87, rfl⟩
abbrev main_while0c_v33 : Ref sig .tc := ⟨.hbm, 88, rfl⟩
abbrev main_while0b_call2_c : Ref sig .tc := ⟨.hbm, 89, rfl⟩
abbrev main_while0b_call2_c_0 : Ref sig .tc := ⟨.hbm, 90, rfl⟩
abbrev main_while0b_call2_v0 : Ref sig .tc := ⟨.hbm, 91, rfl⟩
abbrev main_while0b_v33 : Ref sig .tc := ⟨.hbm, 92, rfl⟩
abbrev main_while0b_call3_c : Ref sig .tc := ⟨.hbm, 93, rfl⟩
abbrev main_while0b_call3_v0 : Ref sig .tc := ⟨.hbm, 94, rfl⟩
abbrev main_while0b_v34 : Ref sig .tc := ⟨.hbm, 95, rfl⟩
abbrev main_while0b_v35 : Ref sig .tc := ⟨.hbm, 96, rfl⟩
abbrev main_while0b_v36 : Ref sig .tc := ⟨.hbm, 97, rfl⟩
abbrev main_while0b_v37 : Ref sig .tc := ⟨.hbm, 98, rfl⟩
abbrev main_while0b_v38 : Ref sig .tc := ⟨.hbm, 99, rfl⟩
abbrev main_while0b_v39 : Ref sig .tc := ⟨.hbm, 100, rfl⟩
abbrev main_while0b_v40 : Ref sig .tc := ⟨.hbm, 101, rfl⟩
abbrev main_while0b_v41 : Ref sig .tc := ⟨.hbm, 102, rfl⟩
abbrev main_while0b_v42 : Ref sig .tc := ⟨.hbm, 103, rfl⟩
abbrev main_while0b_v43 : Ref sig .tc := ⟨.hbm, 104, rfl⟩
abbrev main_while0b_v44 : Ref sig .tc := ⟨.hbm, 105, rfl⟩
abbrev main_while0b_v45 : Ref sig .tc := ⟨.hbm, 106, rfl⟩
abbrev main_while0b_v46 : Ref sig .tc := ⟨.hbm, 107, rfl⟩
abbrev main_while0b_v47 : Ref sig .tc := ⟨.hbm, 108, rfl⟩
abbrev main_while0b_v48 : Ref sig .tc := ⟨.hbm, 109, rfl⟩
abbrev main_while0b_v49 : Ref sig .tc := ⟨.hbm, 110, rfl⟩
abbrev main_while0b_v50 : Ref sig .tc := ⟨.hbm, 111, rfl⟩
abbrev main_while0b_v51 : Ref sig .tc := ⟨.hbm, 112, rfl⟩
abbrev main_while0b_v52 : Ref sig .tc := ⟨.hbm, 113, rfl⟩
abbrev main_while0b_v53 : Ref sig .tc := ⟨.hbm, 114, rfl⟩
abbrev main_while0b_cst_16 : Ref sig .tc := ⟨.hbm, 115, rfl⟩
abbrev main_while0b_v54 : Ref sig .tc := ⟨.hbm, 116, rfl⟩
abbrev main_while0b_v55 : Ref sig .tc := ⟨.hbm, 117, rfl⟩
abbrev main_while0b_cst_17 : Ref sig .tc := ⟨.hbm, 118, rfl⟩
abbrev main_while0b_v56 : Ref sig .tc := ⟨.hbm, 119, rfl⟩
abbrev main_while0b_v57 : Ref sig .tc := ⟨.hbm, 120, rfl⟩
abbrev main_while0b_v58 : Ref sig .tc := ⟨.hbm, 121, rfl⟩
abbrev main_while0b_v59 : Ref sig .tc := ⟨.hbm, 122, rfl⟩
abbrev main_while0b_cst_18 : Ref sig .tc := ⟨.hbm, 123, rfl⟩
abbrev main_while0b_v60 : Ref sig .tc := ⟨.hbm, 124, rfl⟩
abbrev main_while0b_v61 : Ref sig .tc := ⟨.hbm, 125, rfl⟩
abbrev main_while0b_cst_19 : Ref sig .tc := ⟨.hbm, 126, rfl⟩
abbrev main_while0b_v62 : Ref sig .tc := ⟨.hbm, 127, rfl⟩
abbrev main_while0b_v63 : Ref sig .tc := ⟨.hbm, 128, rfl⟩
abbrev main_while0b_v64 : Ref sig .tc := ⟨.hbm, 129, rfl⟩
abbrev main_while0b_v65 : Ref sig .tc := ⟨.hbm, 130, rfl⟩
abbrev main_while0b_v66 : Ref sig .tc := ⟨.hbm, 131, rfl⟩
abbrev main_while0b_cst_20 : Ref sig .tc := ⟨.hbm, 132, rfl⟩
abbrev main_while0b_v67 : Ref sig .tc := ⟨.hbm, 133, rfl⟩
abbrev main_while0b_v68 : Ref sig .tc := ⟨.hbm, 134, rfl⟩
abbrev main_while0b_cst_21 : Ref sig .tc := ⟨.hbm, 135, rfl⟩
abbrev main_while0b_v69 : Ref sig .tc := ⟨.hbm, 136, rfl⟩
abbrev main_while0b_v70 : Ref sig .tc := ⟨.hbm, 137, rfl⟩
abbrev main_while0b_v71 : Ref sig .tc := ⟨.hbm, 138, rfl⟩
abbrev main_while0b_v72 : Ref sig .tc := ⟨.hbm, 139, rfl⟩
abbrev main_while0b_v73 : Ref sig .tc := ⟨.hbm, 140, rfl⟩
abbrev main_while0b_v74 : Ref sig .tc := ⟨.hbm, 141, rfl⟩
abbrev main_while0b_v75 : Ref sig .tc := ⟨.hbm, 142, rfl⟩
abbrev main_while0b_v76 : Ref sig .tc := ⟨.hbm, 143, rfl⟩
abbrev main_while0b_v77 : Ref sig .tc := ⟨.hbm, 144, rfl⟩
abbrev main_while0b_cst_22 : Ref sig .tc := ⟨.hbm, 145, rfl⟩
abbrev main_while0b_v78 : Ref sig .tc := ⟨.hbm, 146, rfl⟩
abbrev main_while0b_v79 : Ref sig .tc := ⟨.hbm, 147, rfl⟩
abbrev main_while0b_v80 : Ref sig .tc := ⟨.hbm, 148, rfl⟩
abbrev main_while0b_v81 : Ref sig .tc := ⟨.hbm, 149, rfl⟩
abbrev main_while0b_v82 : Ref sig .tc := ⟨.hbm, 150, rfl⟩
abbrev main_while0b_v83 : Ref sig .tc := ⟨.hbm, 151, rfl⟩
abbrev main_while0b_v84 : Ref sig .tc := ⟨.hbm, 152, rfl⟩
abbrev main_while0b_cst_23 : Ref sig .tc := ⟨.hbm, 153, rfl⟩
abbrev main_while0b_v85 : Ref sig .tc := ⟨.hbm, 154, rfl⟩
abbrev main_while0b_v86 : Ref sig .tc := ⟨.hbm, 155, rfl⟩
abbrev main_while0b_v87 : Ref sig .tc := ⟨.hbm, 156, rfl⟩
abbrev main_while0b_v88 : Ref sig .tc := ⟨.hbm, 157, rfl⟩
abbrev main_while0b_v89 : Ref sig .tc := ⟨.hbm, 158, rfl⟩
abbrev main_while0b_v90 : Ref sig .tc := ⟨.hbm, 159, rfl⟩
abbrev main_while0b_v91 : Ref sig .tc := ⟨.hbm, 160, rfl⟩
abbrev main_while0b_v92 : Ref sig .tc := ⟨.hbm, 161, rfl⟩
abbrev main_while0b_v93 : Ref sig .tc := ⟨.hbm, 162, rfl⟩
abbrev main_while0b_v94 : Ref sig .tc := ⟨.hbm, 163, rfl⟩
abbrev main_while0b_v95 : Ref sig .tc := ⟨.hbm, 164, rfl⟩
abbrev main_while0b_v96 : Ref sig .tc := ⟨.hbm, 165, rfl⟩
abbrev main_while0b_v97 : Ref sig .tc := ⟨.hbm, 166, rfl⟩
abbrev main_while0b_v98 : Ref sig .tc := ⟨.hbm, 167, rfl⟩
abbrev main_while0b_v99 : Ref sig .tc := ⟨.hbm, 168, rfl⟩
abbrev main_while0b_v100 : Ref sig .tc := ⟨.hbm, 169, rfl⟩
abbrev main_while0b_v101 : Ref sig .tc := ⟨.hbm, 170, rfl⟩
abbrev main_while0b_v102 : Ref sig .tc := ⟨.hbm, 171, rfl⟩
abbrev main_while0b_v103 : Ref sig .tc := ⟨.hbm, 172, rfl⟩
abbrev main_while0b_v104 : Ref sig .tc := ⟨.hbm, 173, rfl⟩
abbrev main_while0b_v105 : Ref sig .tc := ⟨.hbm, 174, rfl⟩
abbrev main_while0b_v106 : Ref sig .tc := ⟨.hbm, 175, rfl⟩
abbrev main_while0b_cst_24 : Ref sig .tc := ⟨.hbm, 176, rfl⟩
abbrev main_while0b_v107 : Ref sig .tc := ⟨.hbm, 177, rfl⟩
abbrev main_while0b_v108 : Ref sig .tc := ⟨.hbm, 178, rfl⟩
abbrev main_while0b_cst_25 : Ref sig .tc := ⟨.hbm, 179, rfl⟩
abbrev main_while0b_v109 : Ref sig .tc := ⟨.hbm, 180, rfl⟩
abbrev main_while0b_v110 : Ref sig .tc := ⟨.hbm, 181, rfl⟩
abbrev main_while0b_v111 : Ref sig .tc := ⟨.hbm, 182, rfl⟩
abbrev main_while0b_v112 : Ref sig .tc := ⟨.hbm, 183, rfl⟩
abbrev main_while0b_cst_26 : Ref sig .tc := ⟨.hbm, 184, rfl⟩
abbrev main_while0b_v113 : Ref sig .tc := ⟨.hbm, 185, rfl⟩
abbrev main_while0b_v114 : Ref sig .tc := ⟨.hbm, 186, rfl⟩
abbrev main_while0b_cst_27 : Ref sig .tc := ⟨.hbm, 187, rfl⟩
abbrev main_while0b_v115 : Ref sig .tc := ⟨.hbm, 188, rfl⟩
abbrev main_while0b_v116 : Ref sig .tc := ⟨.hbm, 189, rfl⟩
abbrev main_while0b_v117 : Ref sig .tc := ⟨.hbm, 190, rfl⟩
abbrev main_while0b_v118 : Ref sig .tc := ⟨.hbm, 191, rfl⟩
abbrev main_while0b_v119 : Ref sig .tc := ⟨.hbm, 192, rfl⟩
abbrev main_while0b_cst_28 : Ref sig .tc := ⟨.hbm, 193, rfl⟩
abbrev main_while0b_v120 : Ref sig .tc := ⟨.hbm, 194, rfl⟩
abbrev main_while0b_v121 : Ref sig .tc := ⟨.hbm, 195, rfl⟩
abbrev main_while0b_cst_29 : Ref sig .tc := ⟨.hbm, 196, rfl⟩
abbrev main_while0b_v122 : Ref sig .tc := ⟨.hbm, 197, rfl⟩
abbrev main_while0b_v123 : Ref sig .tc := ⟨.hbm, 198, rfl⟩
abbrev main_while0b_v124 : Ref sig .tc := ⟨.hbm, 199, rfl⟩
abbrev main_while0b_v125 : Ref sig .tc := ⟨.hbm, 200, rfl⟩
abbrev main_while0b_v126 : Ref sig .tc := ⟨.hbm, 201, rfl⟩
abbrev main_while0b_v127 : Ref sig .tc := ⟨.hbm, 202, rfl⟩
abbrev main_while0b_v128 : Ref sig .tc := ⟨.hbm, 203, rfl⟩
abbrev main_while0b_v129 : Ref sig .tc := ⟨.hbm, 204, rfl⟩
abbrev main_while0b_v130 : Ref sig .tc := ⟨.hbm, 205, rfl⟩
abbrev main_while0b_cst_30 : Ref sig .tc := ⟨.hbm, 206, rfl⟩
abbrev main_while0b_v131 : Ref sig .tc := ⟨.hbm, 207, rfl⟩
abbrev main_while0b_v132 : Ref sig .tc := ⟨.hbm, 208, rfl⟩
abbrev main_while0b_v133 : Ref sig .tc := ⟨.hbm, 209, rfl⟩
abbrev main_while0b_v134 : Ref sig .tc := ⟨.hbm, 210, rfl⟩
abbrev main_while0b_v135 : Ref sig .tc := ⟨.hbm, 211, rfl⟩
abbrev main_while0b_v136 : Ref sig .tc := ⟨.hbm, 212, rfl⟩
abbrev main_while0b_v137 : Ref sig .tc := ⟨.hbm, 213, rfl⟩
abbrev main_while0b_cst_31 : Ref sig .tc := ⟨.hbm, 214, rfl⟩
abbrev main_while0b_v138 : Ref sig .tc := ⟨.hbm, 215, rfl⟩
abbrev main_while0b_v139 : Ref sig .tc := ⟨.hbm, 216, rfl⟩
abbrev main_while0b_v140 : Ref sig .tc := ⟨.hbm, 217, rfl⟩
abbrev main_while0b_v141 : Ref sig .tc := ⟨.hbm, 218, rfl⟩
abbrev main_while0b_v142 : Ref sig .tc := ⟨.hbm, 219, rfl⟩
abbrev main_while0b_v143 : Ref sig .tc := ⟨.hbm, 220, rfl⟩
abbrev main_while0b_v144 : Ref sig .tc := ⟨.hbm, 221, rfl⟩
abbrev main_while0b_call4_v0 : Ref sig .tc := ⟨.hbm, 222, rfl⟩
abbrev main_while0b_call4_c : Ref sig .tc := ⟨.hbm, 223, rfl⟩
abbrev main_while0b_call4_c_0 : Ref sig .tc := ⟨.hbm, 224, rfl⟩
abbrev main_while0b_v145 : Ref sig .tc := ⟨.hbm, 225, rfl⟩
abbrev main_while0b_c_32 : Ref sig .tc := ⟨.hbm, 226, rfl⟩
abbrev main_while0b_v146 : Ref sig .tc := ⟨.hbm, 227, rfl⟩

abbrev nD : Nat := 1
abbrev τ : Topo := Topo.v7x

variable {F : FTy → Type} [FloatOps F]

abbrev main_while0_count : Scf.Loop 32 := ⟨0#32, 512#32, 1#32⟩
-- ==== Proof.LstmStep.lean ====
/- One time step of the recurrent layer as the kernel computes it, and its iteration: the states `(h, c)` after `n`
   steps over a block of 64 rows of gate inputs, the block of outputs those steps leave, and the mask of the second
   pass. The payloads are the generated ones (`k1_pay6`: the new `h`; `k1_pay7`: the new `c`; `k1_pay8`: the row
   stored). Everything here is pure. -/
module

public import proofs.«01_k».proof.Proof.Gen.KernelIdeal.Skeleton
public import Idealize.ShloMosaic.Lib.VecWindow

@[expose] public section

noncomputable section

namespace Cert.KernelIdeal.Own

open Idealize.ShloMosaic Idealize.SL.Sem
open Cert.KernelIdeal Cert.KernelIdeal.Gen

variable {F : FTy → Type} [FloatOps F]

/-- A row of the gate block lies inside the block. -/
theorem gateRow_inb (n : ℕ) : ∀ a, (![n % 64, 0, 0] : Fin 3 → ℕ) a + S1x8x1024.size a ≤ S64x8x1024.size a := by
  have h := Nat.mod_lt n (show 0 < 64 by decide)
  intro a
  match a with
  | 0 => show n % 64 + 1 ≤ 64; omega
  | 1 => show 0 + 8 ≤ 8; omega
  | 2 => show 0 + 1024 ≤ 1024; omega

/-- Row `n` of a block of 64 rows of gate inputs. -/
def gateRow (A : Vec F S64x8x1024 .f32) (n : ℕ) : Vec F S1x8x1024 .f32 :=
  VecWindow.window (s := S64x8x1024) A ![n % 64, 0, 0] S1x8x1024.size (gateRow_inb n)

/-- The pair of state arrays. -/
abbrev St (F : FTy → Type) [FloatOps F] := Vec F S8x256 .f32 × Vec F S8x256 .f32

/-- The starting state of the first grid point. -/
def st0 (h0 c0 : Vec F S8x256 .f32) : St F := (k1_pay1 h0, k1_pay2 c0)

/-- One step: the new state from the weights, one row of gate inputs and the old state. -/
def stepSt (w : Vec F S1024x256 .bf16) (a : Vec F S1x8x1024 .f32) (s : St F) : St F :=
  (k1_pay6 w a s.1 s.2, k1_pay7 w a s.1 s.2)

/-- The state after `n` steps over the rows of a block. -/
def stAfter (w : Vec F S1024x256 .bf16) (A : Vec F S64x8x1024 .f32) (s : St F) : ℕ → St F
  | 0 => s
  | n + 1 => stepSt w (gateRow A n) (stAfter w A s n)

theorem stAfter_zero (w : Vec F S1024x256 .bf16) (A : Vec F S64x8x1024 .f32) (s : St F) : stAfter w A s 0 = s := rfl
theorem stAfter_succ (w : Vec F S1024x256 .bf16) (A : Vec F S64x8x1024 .f32) (s : St F) (n : ℕ) :
    stAfter w A s (n + 1) = stepSt w (gateRow A n) (stAfter w A s n) := rfl

/-- The position of an index of the output block within its own row. -/
def inRow (y : S64x8x256.Idx) : S1x8x256.Idx := fun a => ⟨(y a).val - (![(y 0).val, 0, 0] : Fin 3 → ℕ) a, by
  match a with
  | 0 => show (y 0).val - (y 0).val < 1; omega
  | 1 => exact (y 1).isLt
  | 2 => exact (y 2).isLt⟩

/-- The block of outputs of the first pass: row `t` is the row stored at step `t`. -/
def outBlk (w : Vec F S1024x256 .bf16) (A : Vec F S64x8x1024 .f32) (s : St F) : Vec F S64x8x256 .f32 :=
  fun y => k1_pay8 w (gateRow A (y 0).val) (stAfter w A s (y 0).val).1 (stAfter w A s (y 0).val).2 (inRow y)

/-- A row index as a trip of the second pass's loop. -/
def trip3 (n : ℕ) : Fin k3_t1_loop.trips := ⟨n % k3_t1_loop.trips, Nat.mod_lt _ (by decide +kernel)⟩

/-- The block of outputs of the second pass: row `t` is the row stored at step `t`, already masked by the lengths. -/
def outBlkM (i : BitVec 32) (w : Vec F S1024x256 .bf16) (A : Vec F S64x8x1024 .f32) (l : Vec F S8x1 .i32) (s : St F) :
    Vec F S64x8x256 .f32 :=
  fun y => k3_pay9 i (k3_pay3 w) 0#32 1#32 (trip3 (y 0).val) (gateRow A (y 0).val) (stAfter w A s (y 0).val).1
    (stAfter w A s (y 0).val).2 l (inRow y)

theorem k1_trips : k1_t1_loop.trips = 64 := by decide +kernel
theorem k3_trips : k3_t1_loop.trips = 64 := by decide +kernel

/-- The second pass steps the state as the first does. -/
theorem k3_step_h (w : Vec F S1024x256 .bf16) (a : Vec F S1x8x1024 .f32) (h c : Vec F S8x256 .f32) :
    k3_pay7 (k3_pay3 w) a h c = k1_pay6 w a h c := rfl
theorem k3_step_c (w : Vec F S1024x256 .bf16) (a : Vec F S1x8x1024 .f32) (h c : Vec F S8x256 .f32) :
    k3_pay8 (k3_pay3 w) a h c = k1_pay7 w a h c := rfl

/-- Storing the row of step `k` over a buffer that holds the first `k` rows leaves the first `k + 1`. -/
theorem rows_put (X Y : Vec F S64x8x256 .f32) (k : ℕ) (p : Vec F S1x8x256 .f32)
    (hX : ∀ y, (y 0).val < k → X y = Y y) (hp : ∀ y, (y 0).val = k → p (inRow y) = Y y) :
    ∀ y, (y 0).val < k + 1 → VecWindow.put (s := S64x8x256) X ![k, 0, 0] S1x8x256.size p y = Y y := by
  intro y hy
  unfold VecWindow.put
  by_cases h : ∀ a, (![k, 0, 0] : Fin 3 → ℕ) a ≤ (y a).val ∧ (y a).val < (![k, 0, 0] : Fin 3 → ℕ) a + S1x8x256.size a
  · rw [dif_pos h]
    have hk : (y 0).val = k := by
      have h0 := (h 0).1
      have : k ≤ (y 0).val := h0
      omega
    rw [← hp y hk]
    congr 1
    funext a
    apply Fin.ext
    show (y a).val - (![k, 0, 0] : Fin 3 → ℕ) a = (y a).val - (![(y 0).val, 0, 0] : Fin 3 → ℕ) a
    rw [hk]
  · rw [dif_neg h]
    apply hX
    by_contra hlt
    apply h
    intro a
    match a with
    | 0 => show k ≤ (y 0).val ∧ (y 0).val < k + 1; omega
    | 1 => exact ⟨Nat.zero_le _, (y 1).isLt.trans_eq (by rfl)⟩
    | 2 => exact ⟨Nat.zero_le _, (y 2).isLt.trans_eq (by rfl)⟩

end Cert.KernelIdeal.Own

end
-- ==== Proof.LstmBody1.lean ====
/- The first recurrent pass's kernel body, run once over any staging buffers: from the gate block, the weights and the
   starting state it leaves the block of outputs `outBlk` in its output buffer and the state after 64 steps in its two
   scratch buffers. The counted loop is taken by one invariant: before step `k` the scratch buffers hold the state after
   `k` steps and the first `k` rows of the output are the rows stored. -/
module

public import proofs.«01_k».proof.Proof.LstmStep
public import Idealize.ShloMosaic.Lib.Pipeline.FrameBody
public import Idealize.ShloMosaic.Lib.Ring
public import Idealize.ShloMosaic.Lib.Tactic
public import Idealize.ShloMosaic.Lib.Pipeline.Kit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid1.Coords)
  (arg1 : Memref sig .tc .vmem S64x8x1024 .f32) (harg1 : arg1.IsWhole)
  (arg2 : Memref sig .tc .vmem S1024x256 .bf16) (harg2 : arg2.IsWhole)
  (arg3 : Memref sig .tc .vmem S8x256 .f32) (harg3 : arg3.IsWhole)
  (arg4 : Memref sig .tc .vmem S8x256 .f32) (harg4 : arg4.IsWhole)
  (arg5 : Memref sig .tc .vmem S8x1 .i32) (harg5 : arg5.IsWhole)
  (arg6 : Memref sig .tc .vmem S64x8x256 .f32) (harg6 : arg6.IsWhole)
  (arg7 : Memref sig .tc .vmem S8x256 .f32) (harg7 : arg7.IsWhole)
  (arg8 : Memref sig .tc .vmem S8x256 .f32) (harg8 : arg8.IsWhole)

/-- Before step `k`: the gate block as it was, the first `k` output rows stored, the state after `k` steps. -/
def inv1 (w : Vec F S1024x256 .bf16) (A : Vec F S64x8x1024 .f32) (s : St F) (k : ℕ) : sProp 𝕄 :=
  iprop((∃ f, ⌜arg1.view.read (Elt F) f = A⌝ ∗ (arg1.view.loc (c : Thread nD τ) ↦[arg1.view.set]{fullShare} f))
    ∗ (∃ f, ⌜∀ y, (y 0).val < k → arg6.view.read (Elt F) f y = outBlk w A s y⌝ ∗ (arg6.view.loc (c : Thread nD τ) ↦[arg6.view.set]{fullShare} f))
    ∗ (∃ f, ⌜arg7.view.read (Elt F) f = (stAfter w A s k).1⌝ ∗ (arg7.view.loc (c : Thread nD τ) ↦[arg7.view.set]{fullShare} f))
    ∗ (∃ f, ⌜arg8.view.read (Elt F) f = (stAfter w A s k).2⌝ ∗ (arg8.view.loc (c : Thread nD τ) ↦[arg8.view.set]{fullShare} f)))

/-- The row of gate inputs step `k` loads. -/
theorem load_row1 (v : View sig .tc .vmem S64x8x1024 .f32) (f : v.ty.Contents (Elt F)) (A : Vec F S64x8x1024 .f32)
    (hA : v.read (Elt F) f = A) (k : Fin k1_t1_loop.trips) :
    v.readAt (Elt F) (Rect.unit (s := S64x8x1024) (k1_off1 k) S1x8x1024.size (k1_off1_inb k)).toLoadRect f = gateRow A k.val := by
  have hk : k.val < 64 := Nat.lt_of_lt_of_le k.isLt k1_t1_abs.2.1
  have hoff : k1_off1 k = ![k.val % 64, 0, 0] := by rw [k1_off1_eq, Nat.mod_eq_of_lt hk]
  rw [View.readAt_unit v f (k1_off1_inb k) hoff (gateRow_inb k.val), hA]
  rfl

theorem trip1 (E : Set ℕ) (w : Vec F S1024x256 .bf16) (A : Vec F S64x8x1024 .f32) (s : St F) (k : Fin k1_t1_loop.trips) (u : Unit) :
    inv1 c arg1 arg6 arg7 arg8 w A s k.val
      ⊢ wp frame (wpE (defs₀ (F := F)) Variants.none (c : Thread nD τ) none) E
          (k1_t1_body (F := F) i arg1 harg1 arg2 harg2 arg3 harg3 arg4 harg4 arg5 harg5 arg6 harg6 arg7 harg7 arg8 harg8 w k u)
          (fun _ => inv1 c arg1 arg6 arg7 arg8 w A s (k.val + 1)) := by
  have hk : k.val < 64 := Nat.lt_of_lt_of_le k.isLt k1_t1_abs.2.1
  unfold k1_t1_body inv1
  iintro ⟨⟨%f1, %h1, H1⟩, ⟨%f6, %h6, H6⟩, ⟨%f7, %h7, H7⟩, ⟨%f8, %h8, H8⟩⟩
  sl_exec
  sl_step
  isplitl [H1]
  · iexists f1; isplitr; · ipureintro; exact h1
    iexact H1
  isplitl [H6]
  · iexists _; isplitr; swap; · iexact H6
    ipureintro
    have hoff : k1_off2 k = ![k.val, 0, 0] := k1_off2_eq k
    rw [View.read_writes_cons_put arg6.view f6 (k1_off2_inb k) _ [] hoff, View.readAt_full, View.readAt_full,
      load_row1 arg1.view f1 A h1 k, h7, h8]
    refine rows_put _ _ k.val _ h6 fun y hy => ?_
    unfold outBlk; rw [hy]
  isplitl [H7]
  · iexists _; isplitr; swap; · iexact H7
    ipureintro
    rw [View.read_writes_full, View.readAt_full, View.readAt_full, load_row1 arg1.view f1 A h1 k, h7, h8]
    rfl
  iexists _; isplitr; swap; · iexact H8
  ipureintro
  rw [View.read_writes_full, View.readAt_full, View.readAt_full, load_row1 arg1.view f1 A h1 k, h7, h8]
  rfl

/-- The body's condition: the first grid point. -/
abbrev first1 (i : grid1.Coords) : Prop := (Scalar.cmpi .ne (Scalar.extui (Scalar.cmpi .eq (BitVec.ofNat 32 (i 0).val) 0#32)) 0#32) = 1#1

/-- The body at the first grid point: whatever the scratch buffers hold, it starts from the initial state. -/
theorem body1_first (hc : first1 i) (A : Vec F S64x8x1024 .f32) (w : Vec F S1024x256 .bf16) (h0 c0 : Vec F S8x256 .f32)
    (l : Vec F S8x1 .i32) (E : Set ℕ) (K : PUnit → sProp 𝕄) :
    iprop(owns (c : Thread nD τ) arg1 fullShare A ∗ owns (c : Thread nD τ) arg2 fullShare w ∗ owns (c : Thread nD τ) arg3 fullShare h0
        ∗ owns (c : Thread nD τ) arg4 fullShare c0 ∗ owns (c : Thread nD τ) arg5 fullShare l
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare A ∗ owns (c : Thread nD τ) arg2 fullShare w ∗ owns (c : Thread nD τ) arg3 fullShare h0
            ∗ owns (c : Thread nD τ) arg4 fullShare c0 ∗ owns (c : Thread nD τ) arg5 fullShare l
            ∗ owns (c : Thread nD τ) arg6 fullShare (outBlk w A (st0 h0 c0))
            ∗ owns (c : Thread nD τ) arg7 fullShare (stAfter w A (st0 h0 c0) 64).1
            ∗ owns (c : Thread nD τ) arg8 fullShare (stAfter w A (st0 h0 c0) 64).2) -∗ K ⟨⟩))
      ⊢ wp frame (wpE (defs₀ (F := F)) Variants.none (c : Thread nD τ) none) E
          (cc1__lstm_body (F := F) i arg1 harg1 arg2 harg2 arg3 harg3 arg4 harg4 arg5 harg5 arg6 harg6 arg7 harg7 arg8 harg8) K := by
  simp only [cc1__lstm_body_eq_skeleton]; unfold cc1__lstm_body_skel
  unfold owns
  iintro ⟨⟨%f1, %h1, H1⟩, ⟨%f2, %h2, H2⟩, ⟨%f3, %h3, H3⟩, ⟨%f4, %h4, H4⟩, ⟨%f5, %h5, H5⟩, ⟨%d6, %f6, %h6, H6⟩, ⟨%d7, %f7, %h7, H7⟩, ⟨%d8, %f8, %h8, H8⟩, Hk⟩
  sl_exec (disch := exact hc)
  sl_for (fun k _ => inv1 c arg1 arg6 arg7 arg8 w A (st0 h0 c0) k) $$ [H1 H6 H7 H8]
  · intro k u
    have e : View.readAt (Elt F) arg2.view (Rect.unit (s := S1024x256) ![0, 0] S1024x256.size inb_S1024x256_S1024x256_0_0).toLoadRect f2 = w := by
      rw [View.readAt_full, h2]
    have h := trip1 (F := F) c i arg1 harg1 arg2 harg2 arg3 harg3 arg4 harg4 arg5 harg5 arg6 harg6 arg7 harg7 arg8 harg8 E w A (st0 h0 c0) k u
    rw [← e] at h ⊢
    exact h
  · unfold inv1
    isplitl [H1]; · iexists f1; isplitr; · ipureintro; exact h1
                    iexact H1
    isplitl [H6]; · iexists f6; isplitr; · ipureintro; exact fun y hy => absurd hy (Nat.not_lt_zero _)
                    iexact H6
    isplitl [H7]
    · iexists _; isplitr; swap; · iexact H7
      ipureintro
      refine (View.read_writes_full _ _ _ _ _).trans ?_
      rw [View.readAt_full, h3]; rfl
    iexists _; isplitr; swap; · iexact H8
    ipureintro
    refine (View.read_writes_full _ _ _ _ _).trans ?_
    rw [View.readAt_full, h4]; rfl
  iintro %acc
  rw [show Scf.trips k1_t1_loop.lb k1_t1_loop.ub k1_t1_loop.st = 64 from k1_trips]
  unfold inv1
  iintro ⟨⟨%g1, %e1, H1⟩, ⟨%g6, %e6, H6⟩, ⟨%g7, %e7, H7⟩, ⟨%g8, %e8, H8⟩⟩
  sl_step
  iapply Hk
  isplitl [H1]; · iexists g1; isplitr; · ipureintro; exact e1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists g6; isplitr
    · ipureintro; funext y; exact e6 y (y 0).isLt
    iexact H6
  isplitl [H7]; · iexists g7; isplitr; · ipureintro; exact e7
                  iexact H7
  iexists g8; isplitr; · ipureintro; exact e8
  iexact H8

/-- The body at a later grid point: it goes on from the state the scratch buffers hold. -/
theorem body1_next (hc : ¬ first1 i) (A : Vec F S64x8x1024 .f32) (w : Vec F S1024x256 .bf16) (h0 c0 : Vec F S8x256 .f32)
    (l : Vec F S8x1 .i32) (s : St F) (E : Set ℕ) (K : PUnit → sProp 𝕄) :
    iprop(owns (c : Thread nD τ) arg1 fullShare A ∗ owns (c : Thread nD τ) arg2 fullShare w ∗ owns (c : Thread nD τ) arg3 fullShare h0
        ∗ owns (c : Thread nD τ) arg4 fullShare c0 ∗ owns (c : Thread nD τ) arg5 fullShare l
        ∗ (∃ d, owns (c : Thread nD τ) arg6 fullShare d) ∗ owns (c : Thread nD τ) arg7 fullShare s.1 ∗ owns (c : Thread nD τ) arg8 fullShare s.2
        ∗ (iprop(owns (c : Thread nD τ) arg1 fullShare A ∗ owns (c : Thread nD τ) arg2 fullShare w ∗ owns (c : Thread nD τ) arg3 fullShare h0
            ∗ owns (c : Thread nD τ) arg4 fullShare c0 ∗ owns (c : Thread nD τ) arg5 fullShare l
            ∗ owns (c : Thread nD τ) arg6 fullShare (outBlk w A s)
            ∗ owns (c : Thread nD τ) arg7 fullShare (stAfter w A s 64).1
            ∗ owns (c : Thread nD τ) arg8 fullShare (stAfter w A s 64).2) -∗ K ⟨⟩))
      ⊢ wp frame (wpE (defs₀ (F := F)) Variants.none (c : Thread nD τ) none) E
          (cc1__lstm_body (F := F) i arg1 harg1 arg2 harg2 arg3 harg3 arg4 harg4 arg5 harg5 arg6 harg6 arg7 harg7 arg8 harg8) K := by
  simp only [cc1__lstm_body_eq_skeleton]; unfold cc1__lstm_body_skel
  unfold owns
  iintro ⟨⟨%f1, %h1, H1⟩, ⟨%f2, %h2, H2⟩, ⟨%f3, %h3, H3⟩, ⟨%f4, %h4, H4⟩, ⟨%f5, %h5, H5⟩, ⟨%d6, %f6, %h6, H6⟩, ⟨%f7, %h7, H7⟩, ⟨%f8, %h8, H8⟩, Hk⟩
  sl_exec (disch := exact hc)
  sl_for (fun k _ => inv1 c arg1 arg6 arg7 arg8 w A s k) $$ [H1 H6 H7 H8]
  · intro k u
    have e : View.readAt (Elt F) arg2.view (Rect.unit (s := S1024x256) ![0, 0] S1024x256.size inb_S1024x256_S1024x256_0_0).toLoadRect f2 = w := by
      rw [View.readAt_full, h2]
    have h := trip1 (F := F) c i arg1 harg1 arg2 harg2 arg3 harg3 arg4 harg4 arg5 harg5 arg6 harg6 arg7 harg7 arg8 harg8 E w A s k u
    rw [← e] at h ⊢
    exact h
  · unfold inv1
    isplitl [H1]; · iexists f1; isplitr; · ipureintro; exact h1
                    iexact H1
    isplitl [H6]; · iexists f6; isplitr; · ipureintro; exact fun y hy => absurd hy (Nat.not_lt_zero _)
                    iexact H6
    isplitl [H7]; · iexists f7; isplitr; · ipureintro; exact h7
                    iexact H7
    iexists f8; isplitr; · ipureintro; exact h8
    iexact H8
  iintro %acc
  rw [show Scf.trips k1_t1_loop.lb k1_t1_loop.ub k1_t1_loop.st = 64 from k1_trips]
  unfold inv1
  iintro ⟨⟨%g1, %e1, H1⟩, ⟨%g6, %e6, H6⟩, ⟨%g7, %e7, H7⟩, ⟨%g8, %e8, H8⟩⟩
  sl_step
  iapply Hk
  isplitl [H1]; · iexists g1; isplitr; · ipureintro; exact e1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists g6; isplitr
    · ipureintro; funext y; exact e6 y (y 0).isLt
    iexact H6
  isplitl [H7]; · iexists g7; isplitr; · ipureintro; exact e7
                  iexact H7
  iexists g8; isplitr; · ipureintro; exact e8
  iexact H8

end Cert.KernelIdeal.Own

end
-- ==== Proof.LstmRegion1.lean ====
/- The first recurrent pass as a region: the state the scratch buffers carry from one block of 64 steps to the next, the
   proof data of its eight grid points, and the body's obligation at each. -/
module

public import proofs.«01_k».proof.Proof.LstmBody1
public import proofs.«01_k».proof.Proof.Gen.KernelIdeal.Launch
public import proofs.«01_k».proof.Proof.Gen.KernelIdeal.Points
public import Idealize.ShloMosaic.Lib.Pipeline.RegionArraysS
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- Grid point `n`. -/
def pt1 (n : ℕ) : Fin cfg1.N := ⟨n % 8, lt_of_lt_of_eq (Nat.mod_lt _ (by decide)) N_1.symm⟩
theorem pt1_val (t : Fin cfg1.N) : pt1 t.val = t := Fin.ext (Nat.mod_eq_of_lt (lt_of_lt_of_eq t.isLt N_1))

/-- The hidden and cell state before grid point `n`: the initial state, then 64 steps per point. -/
def carry1 (c : Dev nD) : ℕ → St F
  | 0 => st0 (blk1 V c 2 (pt1 0)) (blk1 V c 3 (pt1 0))
  | n + 1 => stAfter (blk1 V c 1 (pt1 n)) (blk1 V c 0 (pt1 n)) (carry1 c n) 64

abbrev hM1 : Memref sig .tc .vmem S8x256 .f32 := Memref.whole cc1_scratch0
abbrev cM1 : Memref sig .tc .vmem S8x256 .f32 := Memref.whole cc1_scratch1

/-- The scratch buffers before grid point `n`: anything before the first, the carried state afterwards. -/
def scr1 (c : Dev nD) (n : ℕ) : sProp 𝕄 :=
  iprop(∃ s : St F, ⌜n ≠ 0 → s = carry1 V c n⌝ ∗ owns (c : Thread nD τ) hM1 fullShare s.1 ∗ owns (c : Thread nD τ) cM1 fullShare s.2)

/-- The other regions' scoped buffers. -/
abbrev rest1 (c : Dev nD) : sProp 𝕄 := Pipeline.scopedRestBut spec1 c [cc1_scratch0, cc1_scratch1]

/-- The region's proof data. -/
def dat1 (c : Dev nD) : Dat τ (Elt F) Unit ℕ (UR sig nD τ) ℕ cfg1 c where
  A w := V c (Proc.devRef .tc (Pipeline.arrRef spec1 w))
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => outBlk (blk1 V c 1 t) (blk1 V c 0 t) (carry1 V c t.val)
  Φ t := iprop(scr1 V c t.val ∗ rest1 c)
  q _ := fullShare
  owed _ := 0

theorem A1 (c : Dev nD) (w : Fin cfg1.W) : (dat1 V c).A w = V c (Proc.devRef .tc (Pipeline.arrRef spec1 w)) := by dsimp only [dat1]
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) :
    (dat1 V c).after 5 t = outBlk (blk1 V c 1 t) (blk1 V c 0 t) (carry1 V c t.val) := by dsimp only [dat1]
theorem Phi1 (c : Dev nD) (t : Fin (cfg1.N + 1)) : (dat1 V c).Φ t = iprop(scr1 V c t.val ∗ rest1 c) := by dsimp only [dat1]

/-- An input window's staging buffer holds its block when the body runs. -/
theorem before1_0 (c : Dev nD) (t : Fin cfg1.N) (d) : (dat1 V c).before 0 t d = blk1 V c 0 t :=
  ((dat1 V c).before_in_eq_fetched 0 rfl (fun _ => rfl) (fun _ _ _ => rfl) (fun t => by rw [after1_0]; unfold Dat.blockOf blk1; rw [A1]) t d).trans
    (by unfold Dat.fetched Dat.blockOf blk1; rw [A1]; rfl)
theorem before1_1 (c : Dev nD) (t : Fin cfg1.N) (d) : (dat1 V c).before 1 t d = blk1 V c 1 t :=
  ((dat1 V c).before_in_eq_fetched 1 rfl (fun _ => rfl) (fun _ _ _ => rfl) (fun t => by rw [after1_1]; unfold Dat.blockOf blk1; rw [A1]) t d).trans
    (by unfold Dat.fetched Dat.blockOf blk1; rw [A1]; rfl)
theorem before1_2 (c : Dev nD) (t : Fin cfg1.N) (d) : (dat1 V c).before 2 t d = blk1 V c 2 t :=
  ((dat1 V c).before_in_eq_fetched 2 rfl (fun _ => rfl) (fun _ _ _ => rfl) (fun t => by rw [after1_2]; unfold Dat.blockOf blk1; rw [A1]) t d).trans
    (by unfold Dat.fetched Dat.blockOf blk1; rw [A1]; rfl)
theorem before1_3 (c : Dev nD) (t : Fin cfg1.N) (d) : (dat1 V c).before 3 t d = blk1 V c 3 t :=
  ((dat1 V c).before_in_eq_fetched 3 rfl (fun _ => rfl) (fun _ _ _ => rfl) (fun t => by rw [after1_3]; unfold Dat.blockOf blk1; rw [A1]) t d).trans
    (by unfold Dat.fetched Dat.blockOf blk1; rw [A1]; rfl)
theorem before1_4 (c : Dev nD) (t : Fin cfg1.N) (d) : (dat1 V c).before 4 t d = blk1 V c 4 t :=
  ((dat1 V c).before_in_eq_fetched 4 rfl (fun _ => rfl) (fun _ _ _ => rfl) (fun t => by rw [after1_4]; unfold Dat.blockOf blk1; rw [A1]) t d).trans
    (by unfold Dat.fetched Dat.blockOf blk1; rw [A1]; rfl)

/-- The body starts from the initial state exactly at the first point. -/
theorem first1_iff (t : Fin cfg1.N) : first1 (grid1.coords t) ↔ t.val = 0 := by
  have ht : t.val < 8 := lt_of_lt_of_eq t.isLt N_1
  have e0 : (grid1.coords t 0).val = t.val / 1 % 8 := Pipeline.Grid.coords_val t 0 (by decide) rfl
  have e : (grid1.coords t 0).val = t.val := by omega
  simp only [first1, e]
  word_cmp

/-- The body at any point, whichever case it is in. -/
theorem body1_any (c : Dev nD) (t : Fin cfg1.N)
    (arg1 : Memref sig .tc .vmem S64x8x1024 .f32) (harg1 : arg1.IsWhole) (arg2 : Memref sig .tc .vmem S1024x256 .bf16) (harg2 : arg2.IsWhole)
    (arg3 : Memref sig .tc .vmem S8x256 .f32) (harg3 : arg3.IsWhole) (arg4 : Memref sig .tc .vmem S8x256 .f32) (harg4 : arg4.IsWhole)
    (arg5 : Memref sig .tc .vmem S8x1 .i32) (harg5 : arg5.IsWhole) (arg6 : Memref sig .tc .vmem S64x8x256 .f32) (harg6 : arg6.IsWhole)
    (hh : hM1.IsWhole) (hc : cM1.IsWhole) (E : Set ℕ) (K : PUnit → sProp 𝕄) :
    iprop(owns (c : Thread nD τ) arg1 fullShare (blk1 V c 0 t) ∗ owns (c : Thread nD τ) arg2 fullShare (blk1 V c 1 t) ∗ owns (c : Thread nD τ) arg3 fullShare (blk1 V c 2 t)
        ∗ owns (c : Thread nD τ) arg4 fullShare (blk1 V c 3 t) ∗ owns (c : Thread nD τ) arg5 fullShare (blk1 V c 4 t)
        ∗ (∃ d, owns (c : Thread nD τ) arg6 fullShare d) ∗ scr1 V c t.val
        ∗ (iprop(owns (c : Thread nD τ) arg1 fullShare (blk1 V c 0 t) ∗ owns (c : Thread nD τ) arg2 fullShare (blk1 V c 1 t) ∗ owns (c : Thread nD τ) arg3 fullShare (blk1 V c 2 t)
            ∗ owns (c : Thread nD τ) arg4 fullShare (blk1 V c 3 t) ∗ owns (c : Thread nD τ) arg5 fullShare (blk1 V c 4 t)
            ∗ owns (c : Thread nD τ) arg6 fullShare (outBlk (blk1 V c 1 t) (blk1 V c 0 t) (carry1 V c t.val))
            ∗ scr1 V c (t.val + 1)) -∗ K ⟨⟩))
      ⊢ wp frame (wpE (defs₀ (F := F)) Variants.none (c : Thread nD τ) none) E
          (cc1__lstm_body (F := F) (grid1.coords t) arg1 harg1 arg2 harg2 arg3 harg3 arg4 harg4 arg5 harg5 arg6 harg6 hM1 hh cM1 hc) K := by
  have hnext : carry1 V c (t.val + 1) = stAfter (blk1 V c 1 t) (blk1 V c 0 t) (carry1 V c t.val) 64 := by
    show stAfter (blk1 V c 1 (pt1 t.val)) (blk1 V c 0 (pt1 t.val)) (carry1 V c t.val) 64 = _
    rw [pt1_val]
  unfold scr1
  iintro ⟨H1, H2, H3, H4, H5, H6, ⟨%s, %hs, H7, H8⟩, Hk⟩
  by_cases h0 : t.val = 0
  · have e : carry1 V c t.val = st0 (blk1 V c 2 t) (blk1 V c 3 t) := by
      have := pt1_val t
      rw [h0] at this ⊢
      show st0 (blk1 V c 2 (pt1 0)) (blk1 V c 3 (pt1 0)) = _
      rw [this]
    rw [hnext, e]
    iapply (body1_first c (grid1.coords t) _ _ _ _ _ _ _ _ _ _ _ _ _ _ _ _ ((first1_iff t).mpr h0) (blk1 V c 0 t) (blk1 V c 1 t) (blk1 V c 2 t) (blk1 V c 3 t) (blk1 V c 4 t) E K)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H1, H2, H3, H4, H5, H6, H7, H8⟩
    iapply Hk
    isplitl [H1]; · iexact H1
    isplitl [H2]; · iexact H2
    isplitl [H3]; · iexact H3
    isplitl [H4]; · iexact H4
    isplitl [H5]; · iexact H5
    isplitl [H6]; · iexact H6
    iexists _
    isplitr; · ipureintro; exact fun _ => rfl
    isplitl [H7]; · iexact H7
    iexact H8
  · obtain rfl := hs h0
    rw [hnext]
    iapply (body1_next c (grid1.coords t) _ _ _ _ _ _ _ _ _ _ _ _ _ _ _ _ (fun h => h0 ((first1_iff t).mp h)) (blk1 V c 0 t) (blk1 V c 1 t) (blk1 V c 2 t) (blk1 V c 3 t) (blk1 V c 4 t) (carry1 V c t.val) E K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]; · iexact H4
    isplitl [H5]; · iexact H5
    isplitl [H6]; · iexact H6
    iexists _
    isplitr; · ipureintro; exact fun _ => rfl
    isplitl [H7]; · iexact H7
    iexact H8

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem point1 (c : Dev nD) (t : Fin cfg1.N) :
    pre1 V c t ⊢ wp frame (wpE (defs₀ (F := F)) Variants.none c none) Set.univ (bodyAt1 t) (fun _ => post1 V c t) := by
  unfold pre1 post1 bodyAt1
  simp only [before1_0, before1_1, before1_2, before1_3, before1_4]
  rw [show (dat1 V c).owesAt () t.succ = (dat1 V c).owesAt () t.castSucc from rfl,
    after1_0, after1_1, after1_2, after1_3, after1_4, after1_5, Phi1, Phi1,
    show (t.castSucc : Fin (cfg1.N + 1)).val = t.val from rfl, show (t.succ : Fin (cfg1.N + 1)).val = t.val + 1 from rfl]
  iintro ⟨⟨HS, HR⟩, Ho, ⟨%d0, H0⟩, ⟨%d1, H1⟩, ⟨%d2, H2⟩, ⟨%d3, H3⟩, ⟨%d4, H4⟩, ⟨%d5, H5⟩⟩
  iapply (body1_any V c t _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  iexact H5

theorem row1 (t : Fin cfg1.N) : defs₀ (F := F) .tc cfg1.body (cfg1.bodyArgs t (cfg1.slots t)) = bodyAt1 t := by
  unfold defs₀; rw [Defs.onTc_tc]

/-- The body's obligation at every point. -/
theorem oblig1 (c : Dev nD) : BodyObligation (dat1 V c) (defs₀ (F := F)) Variants.none () Set.univ := fun t => by
  rw [bigSep_W1, bigSep_W1, row1]
  exact triple_restated (point1 V c t) rfl .rfl fun _ => .rfl

theorem split1 (c : Dev nD) : (Pipeline.scopedRest spec1 c : sProp 𝕄)
    = iprop(iprop((∃ d, owns (c : Thread nD τ) hM1 fullShare d) ∗ (∃ d, owns (c : Thread nD τ) cM1 fullShare d)) ∗ rest1 c) := by
  rw [Pipeline.scopedRest_split_of_list spec1 c [cc1_scratch0, cc1_scratch1] (by decide) (by decide)]
  simp only [hM1, cM1, owns_whole]
  rfl

/-- The region starts from the scratch buffers at anything, -/
theorem enter1 (c : Dev nD) : iprop(Pipeline.scopedRest spec1 c ∗ emp) ⊢ (dat1 V c).Φ 0 := by
  rw [Phi1, split1]
  unfold scr1
  iintro ⟨⟨⟨⟨%h, H7⟩, ⟨%k, H8⟩⟩, HR⟩, -⟩
  isplitr [HR]
  · iexists (h, k)
    isplitr; · ipureintro; exact fun h => absurd rfl h
    isplitl [H7]; · iexact H7
    iexact H8
  iexact HR

/-- and gives them back. -/
theorem leave1 (c : Dev nD) : (dat1 V c).Φ (Fin.last cfg1.N) ⊢ iprop(Pipeline.scopedRest spec1 c ∗ emp) := by
  rw [Phi1, split1]
  unfold scr1
  iintro ⟨⟨%s, %hs, H7, H8⟩, HR⟩
  isplitl
  · isplitr [HR]
    · isplitl [H7]; · iexists _; iexact H7
      iexists _; iexact H8
    iexact HR
  iempintro

end Cert.KernelIdeal.Own

end
-- ==== Proof.LstmBody3.lean ====
/- The second recurrent pass's kernel body, run once over any staging buffers: from the gate block, the weights, the
   lengths and the starting state it leaves the block of masked outputs `outBlkM` in its output buffer and the state after 64 steps in its two
   scratch buffers. The counted loop is taken by one invariant: before step `k` the scratch buffers hold the state after
   `k` steps and the first `k` rows of the output are the rows stored. -/
module

public import proofs.«01_k».proof.Proof.LstmStep
public import Idealize.ShloMosaic.Lib.Pipeline.FrameBody
public import Idealize.ShloMosaic.Lib.Ring
public import Idealize.ShloMosaic.Lib.Tactic
public import Idealize.ShloMosaic.Lib.Pipeline.Kit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

variable (c : Dev nD) (i : grid3.Coords)
  (arg1 : Memref sig .tc .vmem S64x8x1024 .f32) (harg1 : arg1.IsWhole)
  (arg2 : Memref sig .tc .vmem S1024x256 .bf16) (harg2 : arg2.IsWhole)
  (arg3 : Memref sig .tc .vmem S8x256 .f32) (harg3 : arg3.IsWhole)
  (arg4 : Memref sig .tc .vmem S8x256 .f32) (harg4 : arg4.IsWhole)
  (arg5 : Memref sig .tc .vmem S8x1 .i32) (harg5 : arg5.IsWhole)
  (arg6 : Memref sig .tc .vmem S64x8x256 .f32) (harg6 : arg6.IsWhole)
  (arg7 : Memref sig .tc .vmem S8x256 .f32) (harg7 : arg7.IsWhole)
  (arg8 : Memref sig .tc .vmem S8x256 .f32) (harg8 : arg8.IsWhole)

/-- Before step `k`: the gate block as it was, the first `k` output rows stored, the state after `k` steps. -/
def inv3 (w : Vec F S1024x256 .bf16) (A : Vec F S64x8x1024 .f32) (l : Vec F S8x1 .i32) (s : St F) (k : ℕ) : sProp 𝕄 :=
  iprop((∃ f, ⌜arg1.view.read (Elt F) f = A⌝ ∗ (arg1.view.loc (c : Thread nD τ) ↦[arg1.view.set]{fullShare} f))
    ∗ (∃ f, ⌜arg5.view.read (Elt F) f = l⌝ ∗ (arg5.view.loc (c : Thread nD τ) ↦[arg5.view.set]{fullShare} f))
    ∗ (∃ f, ⌜∀ y, (y 0).val < k → arg6.view.read (Elt F) f y = outBlkM (BitVec.ofNat 32 (i 0).val) w A l s y⌝ ∗ (arg6.view.loc (c : Thread nD τ) ↦[arg6.view.set]{fullShare} f))
    ∗ (∃ f, ⌜arg7.view.read (Elt F) f = (stAfter w A s k).1⌝ ∗ (arg7.view.loc (c : Thread nD τ) ↦[arg7.view.set]{fullShare} f))
    ∗ (∃ f, ⌜arg8.view.read (Elt F) f = (stAfter w A s k).2⌝ ∗ (arg8.view.loc (c : Thread nD τ) ↦[arg8.view.set]{fullShare} f)))

/-- The row of gate inputs step `k` loads. -/
theorem load_row3 (v : View sig .tc .vmem S64x8x1024 .f32) (f : v.ty.Contents (Elt F)) (A : Vec F S64x8x1024 .f32)
    (hA : v.read (Elt F) f = A) (k : Fin k3_t1_loop.trips) :
    v.readAt (Elt F) (Rect.unit (s := S64x8x1024) (k3_off1 k) S1x8x1024.size (k3_off1_inb k)).toLoadRect f = gateRow A k.val := by
  have hk : k.val < 64 := Nat.lt_of_lt_of_le k.isLt k3_t1_abs.2.1
  have hoff : k3_off1 k = ![k.val % 64, 0, 0] := by rw [k3_off1_eq, Nat.mod_eq_of_lt hk]
  rw [View.readAt_unit v f (k3_off1_inb k) hoff (gateRow_inb k.val), hA]
  rfl

theorem trip3_run (E : Set ℕ) (w : Vec F S1024x256 .bf16) (A : Vec F S64x8x1024 .f32) (l : Vec F S8x1 .i32) (s : St F) (k : Fin k3_t1_loop.trips) (u : Unit) :
    inv3 c i arg1 arg5 arg6 arg7 arg8 w A l s k.val
      ⊢ wp frame (wpE (defs₀ (F := F)) Variants.none (c : Thread nD τ) none) E
          (k3_t1_body (F := F) i arg1 harg1 arg2 harg2 arg3 harg3 arg4 harg4 arg5 harg5 arg6 harg6 arg7 harg7 arg8 harg8 (BitVec.ofNat 32 (i 0).val) w k u)
          (fun _ => inv3 c i arg1 arg5 arg6 arg7 arg8 w A l s (k.val + 1)) := by
  have hk : k.val < 64 := Nat.lt_of_lt_of_le k.isLt k3_t1_abs.2.1
  unfold k3_t1_body inv3
  simp only [k3_part1_eq_skeleton]; unfold k3_part1_skel
  iintro ⟨⟨%f1, %h1, H1⟩, ⟨%f5, %h5, H5⟩, ⟨%f6, %h6, H6⟩, ⟨%f7, %h7, H7⟩, ⟨%f8, %h8, H8⟩⟩
  sl_exec
  sl_step
  isplitl [H1]
  · iexists f1; isplitr; · ipureintro; exact h1
    iexact H1
  isplitl [H5]
  · iexists f5; isplitr; · ipureintro; exact h5
    iexact H5
  isplitl [H6]
  · iexists _; isplitr; swap; · iexact H6
    ipureintro
    have hoff : k3_off2 k = ![k.val, 0, 0] := k3_off2_eq k
    rw [View.read_writes_cons_put arg6.view f6 (k3_off2_inb k) _ [] hoff, View.readAt_full, View.readAt_full, View.readAt_full,
      load_row3 arg1.view f1 A h1 k, h5, h7, h8]
    refine rows_put _ _ k.val _ h6 fun y hy => ?_
    have hkk : trip3 k.val = k := Fin.ext (Nat.mod_eq_of_lt k.isLt)
    unfold outBlkM; rw [hy, hkk]
  isplitl [H7]
  · iexists _; isplitr; swap; · iexact H7
    ipureintro
    rw [View.read_writes_full, View.readAt_full, View.readAt_full, load_row3 arg1.view f1 A h1 k, h7, h8]
    rfl
  iexists _; isplitr; swap; · iexact H8
  ipureintro
  rw [View.read_writes_full, View.readAt_full, View.readAt_full, load_row3 arg1.view f1 A h1 k, h7, h8]
  rfl

/-- The body's condition: the first grid point. -/
abbrev first3 (i : grid3.Coords) : Prop := (Scalar.cmpi .ne (Scalar.extui (Scalar.cmpi .eq (BitVec.ofNat 32 (i 0).val) 0#32)) 0#32) = 1#1

/-- The body at the first grid point: whatever the scratch buffers hold, it starts from the initial state. -/
theorem body3_first (hc : first3 i) (A : Vec F S64x8x1024 .f32) (w : Vec F S1024x256 .bf16) (h0 c0 : Vec F S8x256 .f32)
    (l : Vec F S8x1 .i32) (E : Set ℕ) (K : PUnit → sProp 𝕄) :
    iprop(owns (c : Thread nD τ) arg1 fullShare A ∗ owns (c : Thread nD τ) arg2 fullShare w ∗ owns (c : Thread nD τ) arg3 fullShare h0
        ∗ owns (c : Thread nD τ) arg4 fullShare c0 ∗ owns (c : Thread nD τ) arg5 fullShare l
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare A ∗ owns (c : Thread nD τ) arg2 fullShare w ∗ owns (c : Thread nD τ) arg3 fullShare h0
            ∗ owns (c : Thread nD τ) arg4 fullShare c0 ∗ owns (c : Thread nD τ) arg5 fullShare l
            ∗ owns (c : Thread nD τ) arg6 fullShare (outBlkM (BitVec.ofNat 32 (i 0).val) w A l (st0 h0 c0))
            ∗ owns (c : Thread nD τ) arg7 fullShare (stAfter w A (st0 h0 c0) 64).1
            ∗ owns (c : Thread nD τ) arg8 fullShare (stAfter w A (st0 h0 c0) 64).2) -∗ K ⟨⟩))
      ⊢ wp frame (wpE (defs₀ (F := F)) Variants.none (c : Thread nD τ) none) E
          (cc3__lstm_body (F := F) i arg1 harg1 arg2 harg2 arg3 harg3 arg4 harg4 arg5 harg5 arg6 harg6 arg7 harg7 arg8 harg8) K := by
  simp only [cc3__lstm_body_eq_skeleton]; unfold cc3__lstm_body_skel
  unfold owns
  iintro ⟨⟨%f1, %h1, H1⟩, ⟨%f2, %h2, H2⟩, ⟨%f3, %h3, H3⟩, ⟨%f4, %h4, H4⟩, ⟨%f5, %h5, H5⟩, ⟨%d6, %f6, %h6, H6⟩, ⟨%d7, %f7, %h7, H7⟩, ⟨%d8, %f8, %h8, H8⟩, Hk⟩
  sl_exec (disch := exact hc)
  sl_for (fun k _ => inv3 c i arg1 arg5 arg6 arg7 arg8 w A l (st0 h0 c0) k) $$ [H1 H5 H6 H7 H8]
  · intro k u
    have e : View.readAt (Elt F) arg2.view (Rect.unit (s := S1024x256) ![0, 0] S1024x256.size inb_S1024x256_S1024x256_0_0).toLoadRect f2 = w := by
      rw [View.readAt_full, h2]
    have h := trip3_run (F := F) c i arg1 harg1 arg2 harg2 arg3 harg3 arg4 harg4 arg5 harg5 arg6 harg6 arg7 harg7 arg8 harg8 E w A l (st0 h0 c0) k u
    rw [← e] at h ⊢
    exact h
  · unfold inv3
    isplitl [H1]; · iexists f1; isplitr; · ipureintro; exact h1
                    iexact H1
    isplitl [H5]; · iexists f5; isplitr; · ipureintro; exact h5
                    iexact H5
    isplitl [H6]; · iexists f6; isplitr; · ipureintro; exact fun y hy => absurd hy (Nat.not_lt_zero _)
                    iexact H6
    isplitl [H7]
    · iexists _; isplitr; swap; · iexact H7
      ipureintro
      refine (View.read_writes_full _ _ _ _ _).trans ?_
      rw [View.readAt_full, h3]; rfl
    iexists _; isplitr; swap; · iexact H8
    ipureintro
    refine (View.read_writes_full _ _ _ _ _).trans ?_
    rw [View.readAt_full, h4]; rfl
  iintro %acc
  rw [show Scf.trips k3_t1_loop.lb k3_t1_loop.ub k3_t1_loop.st = 64 from k3_trips]
  unfold inv3
  iintro ⟨⟨%g1, %e1, H1⟩, ⟨%f5, %h5, H5⟩, ⟨%g6, %e6, H6⟩, ⟨%g7, %e7, H7⟩, ⟨%g8, %e8, H8⟩⟩
  sl_step
  iapply Hk
  isplitl [H1]; · iexists g1; isplitr; · ipureintro; exact e1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists g6; isplitr
    · ipureintro; funext y; exact e6 y (y 0).isLt
    iexact H6
  isplitl [H7]; · iexists g7; isplitr; · ipureintro; exact e7
                  iexact H7
  iexists g8; isplitr; · ipureintro; exact e8
  iexact H8

/-- The body at a later grid point: it goes on from the state the scratch buffers hold. -/
theorem body3_next (hc : ¬ first3 i) (A : Vec F S64x8x1024 .f32) (w : Vec F S1024x256 .bf16) (h0 c0 : Vec F S8x256 .f32)
    (l : Vec F S8x1 .i32) (s : St F) (E : Set ℕ) (K : PUnit → sProp 𝕄) :
    iprop(owns (c : Thread nD τ) arg1 fullShare A ∗ owns (c : Thread nD τ) arg2 fullShare w ∗ owns (c : Thread nD τ) arg3 fullShare h0
        ∗ owns (c : Thread nD τ) arg4 fullShare c0 ∗ owns (c : Thread nD τ) arg5 fullShare l
        ∗ (∃ d, owns (c : Thread nD τ) arg6 fullShare d) ∗ owns (c : Thread nD τ) arg7 fullShare s.1 ∗ owns (c : Thread nD τ) arg8 fullShare s.2
        ∗ (iprop(owns (c : Thread nD τ) arg1 fullShare A ∗ owns (c : Thread nD τ) arg2 fullShare w ∗ owns (c : Thread nD τ) arg3 fullShare h0
            ∗ owns (c : Thread nD τ) arg4 fullShare c0 ∗ owns (c : Thread nD τ) arg5 fullShare l
            ∗ owns (c : Thread nD τ) arg6 fullShare (outBlkM (BitVec.ofNat 32 (i 0).val) w A l s)
            ∗ owns (c : Thread nD τ) arg7 fullShare (stAfter w A s 64).1
            ∗ owns (c : Thread nD τ) arg8 fullShare (stAfter w A s 64).2) -∗ K ⟨⟩))
      ⊢ wp frame (wpE (defs₀ (F := F)) Variants.none (c : Thread nD τ) none) E
          (cc3__lstm_body (F := F) i arg1 harg1 arg2 harg2 arg3 harg3 arg4 harg4 arg5 harg5 arg6 harg6 arg7 harg7 arg8 harg8) K := by
  simp only [cc3__lstm_body_eq_skeleton]; unfold cc3__lstm_body_skel
  unfold owns
  iintro ⟨⟨%f1, %h1, H1⟩, ⟨%f2, %h2, H2⟩, ⟨%f3, %h3, H3⟩, ⟨%f4, %h4, H4⟩, ⟨%f5, %h5, H5⟩, ⟨%d6, %f6, %h6, H6⟩, ⟨%f7, %h7, H7⟩, ⟨%f8, %h8, H8⟩, Hk⟩
  sl_exec (disch := exact hc)
  sl_for (fun k _ => inv3 c i arg1 arg5 arg6 arg7 arg8 w A l s k) $$ [H1 H5 H6 H7 H8]
  · intro k u
    have e : View.readAt (Elt F) arg2.view (Rect.unit (s := S1024x256) ![0, 0] S1024x256.size inb_S1024x256_S1024x256_0_0).toLoadRect f2 = w := by
      rw [View.readAt_full, h2]
    have h := trip3_run (F := F) c i arg1 harg1 arg2 harg2 arg3 harg3 arg4 harg4 arg5 harg5 arg6 harg6 arg7 harg7 arg8 harg8 E w A l s k u
    rw [← e] at h ⊢
    exact h
  · unfold inv3
    isplitl [H1]; · iexists f1; isplitr; · ipureintro; exact h1
                    iexact H1
    isplitl [H5]; · iexists f5; isplitr; · ipureintro; exact h5
                    iexact H5
    isplitl [H6]; · iexists f6; isplitr; · ipureintro; exact fun y hy => absurd hy (Nat.not_lt_zero _)
                    iexact H6
    isplitl [H7]; · iexists f7; isplitr; · ipureintro; exact h7
                    iexact H7
    iexists f8; isplitr; · ipureintro; exact h8
    iexact H8
  iintro %acc
  rw [show Scf.trips k3_t1_loop.lb k3_t1_loop.ub k3_t1_loop.st = 64 from k3_trips]
  unfold inv3
  iintro ⟨⟨%g1, %e1, H1⟩, ⟨%f5, %h5, H5⟩, ⟨%g6, %e6, H6⟩, ⟨%g7, %e7, H7⟩, ⟨%g8, %e8, H8⟩⟩
  sl_step
  iapply Hk
  isplitl [H1]; · iexists g1; isplitr; · ipureintro; exact e1
                  iexact H1
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]; · iexists f5; isplitr; · ipureintro; exact h5
                  iexact H5
  isplitl [H6]
  · iexists g6; isplitr
    · ipureintro; funext y; exact e6 y (y 0).isLt
    iexact H6
  isplitl [H7]; · iexists g7; isplitr; · ipureintro; exact e7
                  iexact H7
  iexists g8; isplitr; · ipureintro; exact e8
  iexact H8

end Cert.KernelIdeal.Own

end
-- ==== Proof.LstmRegion3.lean ====
/- The second recurrent pass as a region: the state the scratch buffers carry from one block of 64 steps to the next, the
   proof data of its eight grid points, and the body's obligation at each. -/
module

public import proofs.«01_k».proof.Proof.LstmBody3
public import proofs.«01_k».proof.Proof.Gen.KernelIdeal.Launch
public import proofs.«01_k».proof.Proof.Gen.KernelIdeal.Points
public import Idealize.ShloMosaic.Lib.Pipeline.RegionArraysS
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at grid point `t`, read off its array as the region finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Proc.devRef .tc (Pipeline.arrRef spec3 w)))

/-- Grid point `n`. -/
def pt3 (n : ℕ) : Fin cfg3.N := ⟨n % 8, lt_of_lt_of_eq (Nat.mod_lt _ (by decide)) N_3.symm⟩
theorem pt3_val (t : Fin cfg3.N) : pt3 t.val = t := Fin.ext (Nat.mod_eq_of_lt (lt_of_lt_of_eq t.isLt N_3))

/-- The hidden and cell state before grid point `n`: the initial state, then 64 steps per point. -/
def carry3 (c : Dev nD) : ℕ → St F
  | 0 => st0 (blk3 V c 2 (pt3 0)) (blk3 V c 3 (pt3 0))
  | n + 1 => stAfter (blk3 V c 1 (pt3 n)) (blk3 V c 0 (pt3 n)) (carry3 c n) 64

abbrev hM3 : Memref sig .tc .vmem S8x256 .f32 := Memref.whole cc3_scratch0
abbrev cM3 : Memref sig .tc .vmem S8x256 .f32 := Memref.whole cc3_scratch1

/-- The scratch buffers before grid point `n`: anything before the first, the carried state afterwards. -/
def scr3 (c : Dev nD) (n : ℕ) : sProp 𝕄 :=
  iprop(∃ s : St F, ⌜n ≠ 0 → s = carry3 V c n⌝ ∗ owns (c : Thread nD τ) hM3 fullShare s.1 ∗ owns (c : Thread nD τ) cM3 fullShare s.2)

/-- The other regions' scoped buffers. -/
abbrev rest3 (c : Dev nD) : sProp 𝕄 := Pipeline.scopedRestBut spec3 c [cc3_scratch0, cc3_scratch1]

/-- The region's proof data. -/
def dat3 (c : Dev nD) : Dat τ (Elt F) Unit ℕ (UR sig nD τ) ℕ cfg3 c where
  A w := V c (Proc.devRef .tc (Pipeline.arrRef spec3 w))
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => outBlkM (BitVec.ofNat 32 (grid3.coords t 0).val) (blk3 V c 1 t) (blk3 V c 0 t) (blk3 V c 4 t) (carry3 V c t.val)
  Φ t := iprop(scr3 V c t.val ∗ rest3 c)
  q _ := fullShare
  owed _ := 0

theorem A3 (c : Dev nD) (w : Fin cfg3.W) : (dat3 V c).A w = V c (Proc.devRef .tc (Pipeline.arrRef spec3 w)) := by dsimp only [dat3]
theorem after3_0 (c : Dev nD) (t : Fin cfg3.N) : (dat3 V c).after 0 t = blk3 V c 0 t := by dsimp only [dat3]
theorem after3_1 (c : Dev nD) (t : Fin cfg3.N) : (dat3 V c).after 1 t = blk3 V c 1 t := by dsimp only [dat3]
theorem after3_2 (c : Dev nD) (t : Fin cfg3.N) : (dat3 V c).after 2 t = blk3 V c 2 t := by dsimp only [dat3]
theorem after3_3 (c : Dev nD) (t : Fin cfg3.N) : (dat3 V c).after 3 t = blk3 V c 3 t := by dsimp only [dat3]
theorem after3_4 (c : Dev nD) (t : Fin cfg3.N) : (dat3 V c).after 4 t = blk3 V c 4 t := by dsimp only [dat3]
theorem after3_5 (c : Dev nD) (t : Fin cfg3.N) :
    (dat3 V c).after 5 t = outBlkM (BitVec.ofNat 32 (grid3.coords t 0).val) (blk3 V c 1 t) (blk3 V c 0 t) (blk3 V c 4 t) (carry3 V c t.val) := by dsimp only [dat3]
theorem Phi3 (c : Dev nD) (t : Fin (cfg3.N + 1)) : (dat3 V c).Φ t = iprop(scr3 V c t.val ∗ rest3 c) := by dsimp only [dat3]

/-- An input window's staging buffer holds its block when the body runs. -/
theorem before3_0 (c : Dev nD) (t : Fin cfg3.N) (d) : (dat3 V c).before 0 t d = blk3 V c 0 t :=
  ((dat3 V c).before_in_eq_fetched 0 rfl (fun _ => rfl) (fun _ _ _ => rfl) (fun t => by rw [after3_0]; unfold Dat.blockOf blk3; rw [A3]) t d).trans
    (by unfold Dat.fetched Dat.blockOf blk3; rw [A3]; rfl)
theorem before3_1 (c : Dev nD) (t : Fin cfg3.N) (d) : (dat3 V c).before 1 t d = blk3 V c 1 t :=
  ((dat3 V c).before_in_eq_fetched 1 rfl (fun _ => rfl) (fun _ _ _ => rfl) (fun t => by rw [after3_1]; unfold Dat.blockOf blk3; rw [A3]) t d).trans
    (by unfold Dat.fetched Dat.blockOf blk3; rw [A3]; rfl)
theorem before3_2 (c : Dev nD) (t : Fin cfg3.N) (d) : (dat3 V c).before 2 t d = blk3 V c 2 t :=
  ((dat3 V c).before_in_eq_fetched 2 rfl (fun _ => rfl) (fun _ _ _ => rfl) (fun t => by rw [after3_2]; unfold Dat.blockOf blk3; rw [A3]) t d).trans
    (by unfold Dat.fetched Dat.blockOf blk3; rw [A3]; rfl)
theorem before3_3 (c : Dev nD) (t : Fin cfg3.N) (d) : (dat3 V c).before 3 t d = blk3 V c 3 t :=
  ((dat3 V c).before_in_eq_fetched 3 rfl (fun _ => rfl) (fun _ _ _ => rfl) (fun t => by rw [after3_3]; unfold Dat.blockOf blk3; rw [A3]) t d).trans
    (by unfold Dat.fetched Dat.blockOf blk3; rw [A3]; rfl)
theorem before3_4 (c : Dev nD) (t : Fin cfg3.N) (d) : (dat3 V c).before 4 t d = blk3 V c 4 t :=
  ((dat3 V c).before_in_eq_fetched 4 rfl (fun _ => rfl) (fun _ _ _ => rfl) (fun t => by rw [after3_4]; unfold Dat.blockOf blk3; rw [A3]) t d).trans
    (by unfold Dat.fetched Dat.blockOf blk3; rw [A3]; rfl)

/-- The body starts from the initial state exactly at the first point. -/
theorem first3_iff (t : Fin cfg3.N) : first3 (grid3.coords t) ↔ t.val = 0 := by
  have ht : t.val < 8 := lt_of_lt_of_eq t.isLt N_3
  have e0 : (grid3.coords t 0).val = t.val / 1 % 8 := Pipeline.Grid.coords_val t 0 (by decide) rfl
  have e : (grid3.coords t 0).val = t.val := by omega
  simp only [first3, e]
  word_cmp

/-- The body at any point, whichever case it is in. -/
theorem body3_any (c : Dev nD) (t : Fin cfg3.N)
    (arg1 : Memref sig .tc .vmem S64x8x1024 .f32) (harg1 : arg1.IsWhole) (arg2 : Memref sig .tc .vmem S1024x256 .bf16) (harg2 : arg2.IsWhole)
    (arg3 : Memref sig .tc .vmem S8x256 .f32) (harg3 : arg3.IsWhole) (arg4 : Memref sig .tc .vmem S8x256 .f32) (harg4 : arg4.IsWhole)
    (arg5 : Memref sig .tc .vmem S8x1 .i32) (harg5 : arg5.IsWhole) (arg6 : Memref sig .tc .vmem S64x8x256 .f32) (harg6 : arg6.IsWhole)
    (hh : hM3.IsWhole) (hc : cM3.IsWhole) (E : Set ℕ) (K : PUnit → sProp 𝕄) :
    iprop(owns (c : Thread nD τ) arg1 fullShare (blk3 V c 0 t) ∗ owns (c : Thread nD τ) arg2 fullShare (blk3 V c 1 t) ∗ owns (c : Thread nD τ) arg3 fullShare (blk3 V c 2 t)
        ∗ owns (c : Thread nD τ) arg4 fullShare (blk3 V c 3 t) ∗ owns (c : Thread nD τ) arg5 fullShare (blk3 V c 4 t)
        ∗ (∃ d, owns (c : Thread nD τ) arg6 fullShare d) ∗ scr3 V c t.val
        ∗ (iprop(owns (c : Thread nD τ) arg1 fullShare (blk3 V c 0 t) ∗ owns (c : Thread nD τ) arg2 fullShare (blk3 V c 1 t) ∗ owns (c : Thread nD τ) arg3 fullShare (blk3 V c 2 t)
            ∗ owns (c : Thread nD τ) arg4 fullShare (blk3 V c 3 t) ∗ owns (c : Thread nD τ) arg5 fullShare (blk3 V c 4 t)
            ∗ owns (c : Thread nD τ) arg6 fullShare (outBlkM (BitVec.ofNat 32 (grid3.coords t 0).val) (blk3 V c 1 t) (blk3 V c 0 t) (blk3 V c 4 t) (carry3 V c t.val))
            ∗ scr3 V c (t.val + 1)) -∗ K ⟨⟩))
      ⊢ wp frame (wpE (defs₀ (F := F)) Variants.none (c : Thread nD τ) none) E
          (cc3__lstm_body (F := F) (grid3.coords t) arg1 harg1 arg2 harg2 arg3 harg3 arg4 harg4 arg5 harg5 arg6 harg6 hM3 hh cM3 hc) K := by
  have hnext : carry3 V c (t.val + 1) = stAfter (blk3 V c 1 t) (blk3 V c 0 t) (carry3 V c t.val) 64 := by
    show stAfter (blk3 V c 1 (pt3 t.val)) (blk3 V c 0 (pt3 t.val)) (carry3 V c t.val) 64 = _
    rw [pt3_val]
  unfold scr3
  iintro ⟨H1, H2, H3, H4, H5, H6, ⟨%s, %hs, H7, H8⟩, Hk⟩
  by_cases h0 : t.val = 0
  · have e : carry3 V c t.val = st0 (blk3 V c 2 t) (blk3 V c 3 t) := by
      have := pt3_val t
      rw [h0] at this ⊢
      show st0 (blk3 V c 2 (pt3 0)) (blk3 V c 3 (pt3 0)) = _
      rw [this]
    rw [hnext, e]
    iapply (body3_first c (grid3.coords t) _ _ _ _ _ _ _ _ _ _ _ _ _ _ _ _ ((first3_iff t).mpr h0) (blk3 V c 0 t) (blk3 V c 1 t) (blk3 V c 2 t) (blk3 V c 3 t) (blk3 V c 4 t) E K)
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H1, H2, H3, H4, H5, H6, H7, H8⟩
    iapply Hk
    isplitl [H1]; · iexact H1
    isplitl [H2]; · iexact H2
    isplitl [H3]; · iexact H3
    isplitl [H4]; · iexact H4
    isplitl [H5]; · iexact H5
    isplitl [H6]; · iexact H6
    iexists _
    isplitr; · ipureintro; exact fun _ => rfl
    isplitl [H7]; · iexact H7
    iexact H8
  · obtain rfl := hs h0
    rw [hnext]
    iapply (body3_next c (grid3.coords t) _ _ _ _ _ _ _ _ _ _ _ _ _ _ _ _ (fun h => h0 ((first3_iff t).mp h)) (blk3 V c 0 t) (blk3 V c 1 t) (blk3 V c 2 t) (blk3 V c 3 t) (blk3 V c 4 t) (carry3 V c t.val) E K)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H1, H2, H3, H4, H5, H6, H7, H8⟩
    iapply Hk
    isplitl [H1]; · iexact H1
    isplitl [H2]; · iexact H2
    isplitl [H3]; · iexact H3
    isplitl [H4]; · iexact H4
    isplitl [H5]; · iexact H5
    isplitl [H6]; · iexact H6
    iexists _
    isplitr; · ipureintro; exact fun _ => rfl
    isplitl [H7]; · iexact H7
    iexact H8

/-- What the body is called with at point `t`, the windows one by one, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem point3 (c : Dev nD) (t : Fin cfg3.N) :
    pre3 V c t ⊢ wp frame (wpE (defs₀ (F := F)) Variants.none c none) Set.univ (bodyAt3 t) (fun _ => post3 V c t) := by
  unfold pre3 post3 bodyAt3
  simp only [before3_0, before3_1, before3_2, before3_3, before3_4]
  rw [show (dat3 V c).owesAt () t.succ = (dat3 V c).owesAt () t.castSucc from rfl,
    after3_0, after3_1, after3_2, after3_3, after3_4, after3_5, Phi3, Phi3,
    show (t.castSucc : Fin (cfg3.N + 1)).val = t.val from rfl, show (t.succ : Fin (cfg3.N + 1)).val = t.val + 1 from rfl]
  iintro ⟨⟨HS, HR⟩, Ho, ⟨%d0, H0⟩, ⟨%d1, H1⟩, ⟨%d2, H2⟩, ⟨%d3, H3⟩, ⟨%d4, H4⟩, ⟨%d5, H5⟩⟩
  iapply (body3_any V c t _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexists _; iexact H5
  isplitl [HS]; · iexact HS
  iintro ⟨H0, H1, H2, H3, H4, H5, HS⟩
  isplitl [HS HR]
  · isplitl [HS]; · iexact HS
    iexact HR
  isplitl [Ho]; · iexact Ho
  isplitl [H0]; · iexact H0
  isplitl [H1]; · iexact H1
  isplitl [H2]; · iexact H2
  isplitl [H3]; · iexact H3
  isplitl [H4]; · iexact H4
  iexact H5

theorem row3 (t : Fin cfg3.N) : defs₀ (F := F) .tc cfg3.body (cfg3.bodyArgs t (cfg3.slots t)) = bodyAt3 t := by
  unfold defs₀; rw [Defs.onTc_tc]

/-- The body's obligation at every point. -/
theorem oblig3 (c : Dev nD) : BodyObligation (dat3 V c) (defs₀ (F := F)) Variants.none () Set.univ := fun t => by
  rw [bigSep_W3, bigSep_W3, row3]
  exact triple_restated (point3 V c t) rfl .rfl fun _ => .rfl

theorem split3 (c : Dev nD) : (Pipeline.scopedRest spec3 c : sProp 𝕄)
    = iprop(iprop((∃ d, owns (c : Thread nD τ) hM3 fullShare d) ∗ (∃ d, owns (c : Thread nD τ) cM3 fullShare d)) ∗ rest3 c) := by
  rw [Pipeline.scopedRest_split_of_list spec3 c [cc3_scratch0, cc3_scratch1] (by decide) (by decide)]
  simp only [hM3, cM3, owns_whole]
  rfl

/-- The region starts from the scratch buffers at anything, -/
theorem enter3 (c : Dev nD) : iprop(Pipeline.scopedRest spec3 c ∗ emp) ⊢ (dat3 V c).Φ 0 := by
  rw [Phi3, split3]
  unfold scr3
  iintro ⟨⟨⟨⟨%h, H7⟩, ⟨%k, H8⟩⟩, HR⟩, -⟩
  isplitr [HR]
  · iexists (h, k)
    isplitr; · ipureintro; exact fun h => absurd rfl h
    isplitl [H7]; · iexact H7
    iexact H8
  iexact HR

/-- and gives them back. -/
theorem leave3 (c : Dev nD) : (dat3 V c).Φ (Fin.last cfg3.N) ⊢ iprop(Pipeline.scopedRest spec3 c ∗ emp) := by
  rw [Phi3, split3]
  unfold scr3
  iintro ⟨⟨%s, %hs, H7, H8⟩, HR⟩
  isplitl
  · isplitr [HR]
    · isplitl [H7]; · iexists _; iexact H7
      iexists _; iexact H8
    iexact HR
  iempintro

end Cert.KernelIdeal.Own

end
-- ==== Proof.MatmulBody.lean ====
/- The second layer's gate matrix product, run once over any staging buffers: one load of each input, one store of the
   whole output block. -/
module

public import proofs.«01_k».proof.Proof.Gen.KernelIdeal.Skeleton
public import Idealize.ShloMosaic.Lib.VecWindow
public import Idealize.ShloMosaic.Lib.Pipeline.FrameBody
public import Idealize.ShloMosaic.Lib.Ring
public import Idealize.ShloMosaic.Lib.Tactic
public import Idealize.ShloMosaic.Lib.Pipeline.Kit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The body's triple: the inputs stay, the output block is the payload of the three inputs. -/
theorem body2 (c : Dev nD) (i : grid2.Coords)
    (arg1 : Memref sig .tc .vmem S64x8x256 .f32) (harg1 : arg1.IsWhole)
    (arg2 : Memref sig .tc .vmem S1024x256 .f32) (harg2 : arg2.IsWhole)
    (arg3 : Memref sig .tc .vmem S1x1024 .f32) (harg3 : arg3.IsWhole)
    (arg4 : Memref sig .tc .vmem S64x8x1024 .f32) (harg4 : arg4.IsWhole)
    (X : Vec F S64x8x256 .f32) (w : Vec F S1024x256 .f32) (b : Vec F S1x1024 .f32) (E : Set ℕ) (K : PUnit → sProp 𝕄) :
    iprop(owns (c : Thread nD τ) arg1 fullShare X ∗ owns (c : Thread nD τ) arg2 fullShare w ∗ owns (c : Thread nD τ) arg3 fullShare b
        ∗ (∃ d, owns (c : Thread nD τ) arg4 fullShare d)
        ∗ (iprop(owns (c : Thread nD τ) arg1 fullShare X ∗ owns (c : Thread nD τ) arg2 fullShare w ∗ owns (c : Thread nD τ) arg3 fullShare b
            ∗ owns (c : Thread nD τ) arg4 fullShare (k2_pay1 X w b)) -∗ K ⟨⟩))
      ⊢ wp frame (wpE (defs₀ (F := F)) Variants.none (c : Thread nD τ) none) E
          (cc2__matmul_body (F := F) i arg1 harg1 arg2 harg2 arg3 harg3 arg4 harg4) K := by
  simp only [cc2__matmul_body_eq_skeleton]; unfold cc2__matmul_body_skel
  unfold owns
  iintro ⟨⟨%f1, %h1, H1⟩, ⟨%f2, %h2, H2⟩, ⟨%f3, %h3, H3⟩, ⟨%d4, %f4, %h4, H4⟩, Hk⟩
  sl_exec
  sl_step
  iapply Hk
  isplitl [H1]; · iexists f1; isplitr; · ipureintro; exact h1
                  iexact H1
  isplitl [H2]; · iexists f2; isplitr; · ipureintro; exact h2
                  iexact H2
  isplitl [H3]; · iexists f3; isplitr; · ipureintro; exact h3
                  iexact H3
  iexists _; isplitr; swap; · iexact H4
  ipureintro
  refine (View.read_writes_full _ _ _ _ _).trans ?_
  rw [View.readAt_full, View.readAt_full, View.readAt_full, h1, h2, h3]

end Cert.KernelIdeal.Own

end
-- ==== Proof.MatmulRegion.lean ====
/- The second layer's gate product as a region: its proof data over eight blocks of 64 steps, and the body's obligation. -/
module

public import proofs.«01_k».proof.Proof.MatmulBody
public import proofs.«01_k».proof.Proof.Gen.KernelIdeal.Launch
public import proofs.«01_k».proof.Proof.Gen.KernelIdeal.Points
public import Idealize.ShloMosaic.Lib.Pipeline.RegionArraysS
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : Dev nD → Valuation τ sig (Elt F))

/-- Window `w`'s block at grid point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The region's proof data. -/
def dat2 (c : Dev nD) : Dat τ (Elt F) Unit ℕ (UR sig nD τ) ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => k2_pay1 (blk2 V c 0 t) (blk2 V c 1 t) (blk2 V c 2 t)
  Φ _ := Pipeline.scopedRest spec2 c
  q _ := fullShare
  owed _ := 0

theorem A2 (c : Dev nD) (w : Fin cfg2.W) : (dat2 V c).A w = V c (Proc.devRef .tc (Pipeline.arrRef spec2 w)) := by dsimp only [dat2]
theorem after2_0 (c : Dev nD) (t : Fin cfg2.N) : (dat2 V c).after 0 t = blk2 V c 0 t := by dsimp only [dat2]
theorem after2_1 (c : Dev nD) (t : Fin cfg2.N) : (dat2 V c).after 1 t = blk2 V c 1 t := by dsimp only [dat2]
theorem after2_2 (c : Dev nD) (t : Fin cfg2.N) : (dat2 V c).after 2 t = blk2 V c 2 t := by dsimp only [dat2]
theorem after2_3 (c : Dev nD) (t : Fin cfg2.N) : (dat2 V c).after 3 t = k2_pay1 (blk2 V c 0 t) (blk2 V c 1 t) (blk2 V c 2 t) := by dsimp only [dat2]

/-- An input window's staging buffer holds its block when the body runs. -/
theorem before2_0 (c : Dev nD) (t : Fin cfg2.N) (d) : (dat2 V c).before 0 t d = blk2 V c 0 t :=
  ((dat2 V c).before_in_eq_fetched 0 rfl (fun _ => rfl) (fun _ _ _ => rfl) (fun t => by rw [after2_0]; unfold Dat.blockOf blk2; rw [A2]) t d).trans
    (by unfold Dat.fetched Dat.blockOf blk2; rw [A2]; rfl)
theorem before2_1 (c : Dev nD) (t : Fin cfg2.N) (d) : (dat2 V c).before 1 t d = blk2 V c 1 t :=
  ((dat2 V c).before_in_eq_fetched 1 rfl (fun _ => rfl) (fun _ _ _ => rfl) (fun t => by rw [after2_1]; unfold Dat.blockOf blk2; rw [A2]) t d).trans
    (by unfold Dat.fetched Dat.blockOf blk2; rw [A2]; rfl)
theorem before2_2 (c : Dev nD) (t : Fin cfg2.N) (d) : (dat2 V c).before 2 t d = blk2 V c 2 t :=
  ((dat2 V c).before_in_eq_fetched 2 rfl (fun _ => rfl) (fun _ _ _ => rfl) (fun t => by rw [after2_2]; unfold Dat.blockOf blk2; rw [A2]) t d).trans
    (by unfold Dat.fetched Dat.blockOf blk2; rw [A2]; rfl)

/-- What the body is called with at point `t`, the windows one by one, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem point2 (c : Dev nD) (t : Fin cfg2.N) :
    pre2 V c t ⊢ wp frame (wpE (defs₀ (F := F)) Variants.none c none) Set.univ (bodyAt2 t) (fun _ => post2 V c t) := by
  unfold pre2 post2 bodyAt2
  simp only [before2_0, before2_1, before2_2]
  rw [show (dat2 V c).owesAt () t.succ = (dat2 V c).owesAt () t.castSucc from rfl,
    show (dat2 V c).Φ t.succ = (dat2 V c).Φ t.castSucc from rfl, after2_0, after2_1, after2_2, after2_3]
  iintro ⟨HR, Ho, ⟨%d0, H0⟩, ⟨%d1, H1⟩, ⟨%d2, H2⟩, ⟨%d3, H3⟩⟩
  iapply (body2 c (grid2.coords t) _ _ _ _ _ _ _ _ (blk2 V c 0 t) (blk2 V c 1 t) (blk2 V c 2 t) Set.univ _)
  isplitl [H0]; · iexact H0
  isplitl [H1]; · iexact H1
  isplitl [H2]; · iexact H2
  isplitl [H3]; · iexists _; iexact H3
  iintro ⟨H0, H1, H2, H3⟩
  isplitl [HR]; · iexact HR
  isplitl [Ho]; · iexact Ho
  isplitl [H0]; · iexact H0
  isplitl [H1]; · iexact H1
  isplitl [H2]; · iexact H2
  iexact H3

theorem row2 (t : Fin cfg2.N) : defs₀ (F := F) .tc cfg2.body (cfg2.bodyArgs t (cfg2.slots t)) = bodyAt2 t := by
  unfold defs₀; rw [Defs.onTc_tc]

/-- The body's obligation at every point. -/
theorem oblig2 (c : Dev nD) : BodyObligation (dat2 V c) (defs₀ (F := F)) Variants.none () Set.univ := fun t => by
  rw [bigSep_W2, bigSep_W2, row2]
  exact triple_restated (point2 V c t) rfl .rfl fun _ => .rfl

/-- The region starts from the other regions' buffers, -/
theorem enter2 (c : Dev nD) : iprop(Pipeline.scopedRest spec2 c ∗ emp) ⊢ (dat2 V c).Φ 0 := by
  rw [show (dat2 V c).Φ 0 = Pipeline.scopedRest spec2 c from rfl]
  iintro ⟨H, -⟩
  iexact H

/-- and gives them back. -/
theorem leave2 (c : Dev nD) : (dat2 V c).Φ (Fin.last cfg2.N) ⊢ iprop(Pipeline.scopedRest spec2 c ∗ emp) := by
  rw [show (dat2 V c).Φ (Fin.last cfg2.N) = Pipeline.scopedRest spec2 c from rfl]
  iintro H
  isplitl; · iexact H
  iempintro

end Cert.KernelIdeal.Own

end
-- ==== Proof.PadBody.lean ====
/- The first layer's gather and gate matrix product, run once over any staging buffers: for each of the eight sequences
   the body reads the sequence's first row off the table, copies 64 packed rows into that sequence's plane of the scratch
   buffer, and multiplies the whole scratch buffer by the weights. -/
module

public import proofs.«01_k».proof.Proof.Gen.KernelIdeal.Skeleton
public import Idealize.ShloMosaic.Lib.VecWindow
public import Idealize.ShloMosaic.Lib.Pointwise
public import Idealize.ShloMosaic.Lib.Pipeline.FrameBody
public import Idealize.ShloMosaic.Lib.Ring
public import Idealize.ShloMosaic.Lib.Tactic
public import Idealize.ShloMosaic.Lib.Pipeline.Kit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The table of sequence starts, as the body is handed it. -/
abbrev tabM : Memref sig .tc .smem S9 .i32 := Memref.whole main_arg1
abbrev htabM : tabM.IsWhole := Memref.isWhole_whole _
abbrev TabBuf (c : Dev nD) {S : Shape} {e : EltTy} (M : Memref sig .tc .smem S e) : Type := Buf (Elt F) (M.view.loc (c : Thread nD τ))
/-- The table, as the body holds it. -/
abbrev tabPt (c : Dev nD) {S : Shape} {e : EltTy} (M : Memref sig .tc .smem S e) (f : TabBuf (F := F) c M) : sProp 𝕄 :=
  M.view.loc (c : Thread nD τ) ↦{fullShare} f

/-- The row the body starts at for the sequence starting at `v`, the packed rows ending at `last`. -/
def startRow (i : grid0.Coords) (last v : BitVec 32) : ℕ := k0_off1 i last v 0

/-- The gathered block: row `y 0` of sequence `y 1`. -/
def gath (i : grid0.Coords) (T : S9.Idx → BitVec 32) (X : Vec F S2816x512 .f32) : Vec F S64x8x512 .f32 :=
  fun y => X (ix2 ⟨(startRow i (T (ix1 8)) (T (ix1 ⟨(y 1).val, (y 1).isLt.trans (by decide)⟩)) + (y 0).val) % 2816, Nat.mod_lt _ (by decide)⟩ (y 2))

theorem payCol (v : Vec F S64x512 .f32) (r : Fin 64) (q : Fin 512) : k0_pay4 v (ix3 r 0 q) = v (ix2 r q) := by
  pointwise [k0_pay4]

/-- Copying sequence `b`'s rows over a buffer that holds the planes before `b` leaves the planes before `b + 1`. -/
theorem planes_put (X Y : Vec F S64x8x512 .f32) (b : ℕ) (hb : b < 8) (p : Vec F S64x1x512 .f32)
    (hX : ∀ y, (y 1).val < b → X y = Y y) (hp : ∀ (r : Fin 64) (q : Fin 512), p (ix3 r 0 q) = Y (ix3 r ⟨b, hb⟩ q)) :
    ∀ y, (y 1).val < b + 1 → VecWindow.put (s := S64x8x512) X ![0, b, 0] S64x1x512.size p y = Y y := by
  intro y hy
  unfold VecWindow.put
  by_cases h : ∀ a, (![0, b, 0] : Fin 3 → ℕ) a ≤ (y a).val ∧ (y a).val < (![0, b, 0] : Fin 3 → ℕ) a + S64x1x512.size a
  · rw [dif_pos h]
    have hk : (y 1).val = b := by
      have h0 : b ≤ (y 1).val := (h 1).1
      omega
    have e1 : Rect.unitLocal (s := S64x8x512) (off := ![0, b, 0]) (size := S64x1x512.size) y h = (ix3 (y 0) 0 (y 2) : S64x1x512.Idx) := by
      funext a
      apply Fin.ext
      match a with
      | 0 => rfl
      | 1 => show (y 1).val - b = 0; omega
      | 2 => rfl
    have e2 : y = ix3 (y 0) ⟨b, hb⟩ (y 2) := by
      conv_lhs => rw [eq_ix3 y]
      congr 1
      exact Fin.ext hk
    rw [e1]
    refine (hp _ _).trans ?_
    exact congrArg Y e2.symm
  · rw [dif_neg h]
    apply hX
    by_contra hlt
    apply h
    intro a
    match a with
    | 0 => exact ⟨Nat.zero_le _, (y 0).isLt.trans_eq (by rfl)⟩
    | 1 => show b ≤ (y 1).val ∧ (y 1).val < b + 1; omega
    | 2 => exact ⟨Nat.zero_le _, (y 2).isLt.trans_eq (by rfl)⟩

/-- The word the body loads off the table at position `n`, -/
abbrev tabW (c : Dev nD) (T : TabBuf (F := F) c tabM) (n : ℕ) (inb : ∀ a, (![n] : Fin 1 → ℕ) a + S1.size a ≤ S9.size a) : BitVec 32 :=
  tabM.view.readAt (Elt F) (Rect.unit (s := S9) ![n] S1.size inb).toLoadRect T (Shape.Idx.first (numel1_S1.symm ▸ Nat.one_pos))
/-- is the table's entry there. -/
theorem tab_word (c : Dev nD) (T : TabBuf (F := F) c tabM) (n : ℕ) (hn : n < 9) (inb : ∀ a, (![n] : Fin 1 → ℕ) a + S1.size a ≤ S9.size a) :
    tabW c T n inb = T (ix1 ⟨n, hn⟩) := by
  refine congrArg T ?_
  funext a
  apply Fin.ext
  match a with
  | 0 => show n + 1 * 0 = n; omega

/-- The same, over the list of stores the executor keeps. -/
theorem planes_write (v : View sig .tc .vmem S64x8x512 .f32) (f : v.ty.Contents (Elt F)) (L : List (View.Piece (Elt F) S64x8x512 .f32))
    (Y : Vec F S64x8x512 .f32) (b : ℕ) (hb : b < 8) (inb : ∀ a, (![0, b, 0] : Fin 3 → ℕ) a + S64x1x512.size a ≤ S64x8x512.size a)
    (p : Vec F S64x1x512 .f32)
    (hX : ∀ y, (y 1).val < b → v.read (Elt F) (v.writes (Elt F) f L) y = Y y)
    (hp : ∀ (r : Fin 64) (q : Fin 512), p (ix3 r 0 q) = Y (ix3 r ⟨b, hb⟩ q)) :
    ∀ y, (y 1).val < b + 1 →
      v.read (Elt F) (v.writes (Elt F) f (⟨Rect.unit (s := S64x8x512) ![0, b, 0] S64x1x512.size inb, p⟩ :: L)) y = Y y := by
  intro y hy
  rw [View.read_writes_cons_put v f inb p L rfl]
  exact planes_put _ Y b hb p hX hp y hy

/-- What the body copies for sequence `b` is that sequence's plane of the gathered block. -/
theorem gath_plane (i : grid0.Coords) (v : View sig .tc .vmem S2816x512 .f32) (f : v.ty.Contents (Elt F)) (X : Vec F S2816x512 .f32)
    (hf : v.read (Elt F) f = X) (T : S9.Idx → BitVec 32) (b : Fin 8) (last w : BitVec 32) (el : last = T (ix1 8)) (ew : w = T (ix1 b.castSucc))
    (inb : ∀ a, k0_off1 i last w a + S64x512.size a ≤ S2816x512.size a) (r : Fin 64) (q : Fin 512) :
    k0_pay4 (v.readAt (Elt F) (Rect.unit (s := S2816x512) (k0_off1 i last w) S64x512.size inb).toLoadRect f) (ix3 r 0 q)
      = gath i T X (ix3 r b q) := by
  rw [payCol]
  subst hf el ew
  refine congrArg (v.read (Elt F) f) ?_
  have h0 : k0_off1 i (T (ix1 8)) (T (ix1 b.castSucc)) 0 + 64 ≤ 2816 := inb 0
  funext a
  apply Fin.ext
  match a with
  | 0 =>
    show k0_off1 i (T (ix1 8)) (T (ix1 b.castSucc)) 0 + 1 * r.val = (k0_off1 i (T (ix1 8)) (T (ix1 b.castSucc)) 0 + r.val) % 2816
    rw [Nat.mod_eq_of_lt (by have := r.isLt; omega), Nat.one_mul]
  | 1 => show 0 + 1 * q.val = q.val; omega

/-- The conditions the body assumes of the table's words, at one grid point. -/
abbrev Fits (i : grid0.Coords) (T : S9.Idx → BitVec 32) : Prop := ∀ b : Fin 8, k0_chk1 i (T (ix1 8)) (T (ix1 b.castSucc))

set_option maxHeartbeats 1000000 in
/-- The body's triple. -/
theorem body0 (c : Dev nD) (i : grid0.Coords)
    (arg2 : Memref sig .tc .vmem S2816x512 .f32) (harg2 : arg2.IsWhole)
    (arg3 : Memref sig .tc .vmem S1024x512 .f32) (harg3 : arg3.IsWhole)
    (arg4 : Memref sig .tc .vmem S1x1024 .f32) (harg4 : arg4.IsWhole)
    (arg5 : Memref sig .tc .vmem S64x8x1024 .f32) (harg5 : arg5.IsWhole)
    (arg6 : Memref sig .tc .vmem S64x8x512 .f32) (harg6 : arg6.IsWhole)
    (X : Vec F S2816x512 .f32) (w : Vec F S1024x512 .f32) (b : Vec F S1x1024 .f32) (T : TabBuf (F := F) c tabM)
    (hT : Fits i T) (E : Set ℕ) (K : PUnit → sProp 𝕄) :
    iprop(owns (c : Thread nD τ) arg2 fullShare X ∗ owns (c : Thread nD τ) arg3 fullShare w ∗ owns (c : Thread nD τ) arg4 fullShare b
        ∗ (∃ d, owns (c : Thread nD τ) arg5 fullShare d) ∗ (∃ d, owns (c : Thread nD τ) arg6 fullShare d) ∗ tabPt c tabM T
        ∗ (iprop(owns (c : Thread nD τ) arg2 fullShare X ∗ owns (c : Thread nD τ) arg3 fullShare w ∗ owns (c : Thread nD τ) arg4 fullShare b
            ∗ owns (c : Thread nD τ) arg5 fullShare (k0_pay3 (gath i T X) w b) ∗ (∃ d, owns (c : Thread nD τ) arg6 fullShare d) ∗ tabPt c tabM T) -∗ K ⟨⟩))
      ⊢ wp frame (wpE (defs₀ (F := F)) Variants.none (c : Thread nD τ) none) E
          (cc0__pad_matmul_body (F := F) i tabM htabM arg2 harg2 arg3 harg3 arg4 harg4 arg5 harg5 arg6 harg6) K := by
  simp only [cc0__pad_matmul_body_eq_skeleton]; unfold cc0__pad_matmul_body_skel
  simp only [k0_part1_eq_skeleton, k0_part2_eq_skeleton]
  unfold owns
  iintro ⟨⟨%f2, %h2, H2⟩, ⟨%f3, %h3, H3⟩, ⟨%f4, %h4, H4⟩, ⟨%d5, %f5, %h5, H5⟩, ⟨%d6, %f6, %h6, H6⟩, HT, Hk⟩
  have e8 := tab_word c T 8 (by decide) inb_S9_S1_8
  have e0 := tab_word c T 0 (by decide) inb_S9_S1_0
  have e1 := tab_word c T 1 (by decide) inb_S9_S1_1
  have e2 := tab_word c T 2 (by decide) inb_S9_S1_2
  have e3 := tab_word c T 3 (by decide) inb_S9_S1_3
  have e4 := tab_word c T 4 (by decide) inb_S9_S1_4
  have e5 := tab_word c T 5 (by decide) inb_S9_S1_5
  have e6 := tab_word c T 6 (by decide) inb_S9_S1_6
  have e7 := tab_word c T 7 (by decide) inb_S9_S1_7
  have k0_hw1 : k0_chk1 i (tabW c T 8 inb_S9_S1_8) (tabW c T 0 inb_S9_S1_0) := by
    rw [e8, e0]; exact hT 0
  have k0_hw2 : k0_chk2 i (tabW c T 8 inb_S9_S1_8) (tabW c T 1 inb_S9_S1_1) := by
    rw [e8, e1]; exact hT 1
  have k0_hw3 : k0_chk3 i (tabW c T 8 inb_S9_S1_8) (tabW c T 2 inb_S9_S1_2) := by
    rw [e8, e2]; exact hT 2
  have k0_hw4 : k0_chk4 i (tabW c T 8 inb_S9_S1_8) (tabW c T 3 inb_S9_S1_3) := by
    rw [e8, e3]; exact hT 3
  have k0_hw5 : k0_chk5 i (tabW c T 8 inb_S9_S1_8) (tabW c T 4 inb_S9_S1_4) := by
    rw [e8, e4]; exact hT 4
  have k0_hw6 : k0_chk6 i (tabW c T 8 inb_S9_S1_8) (tabW c T 5 inb_S9_S1_5) := by
    rw [e8, e5]; exact hT 5
  have k0_hw7 : k0_chk7 i (tabW c T 8 inb_S9_S1_8) (tabW c T 6 inb_S9_S1_6) := by
    rw [e8, e6]; exact hT 6
  have k0_hw8 : k0_chk8 i (tabW c T 8 inb_S9_S1_8) (tabW c T 7 inb_S9_S1_7) := by
    rw [e8, e7]; exact hT 7
  sl_exec (disch := first | sl_exact k0_hw1 | sl_exact k0_hw2 | sl_exact k0_hw3 | sl_exact k0_hw4 | sl_exact k0_hw5 | sl_exact k0_hw6 | sl_exact k0_hw7 | sl_exact k0_hw8)
  sl_step
  iapply Hk
  isplitl [H2]; · iexists f2; isplitr; · ipureintro; exact h2
                  iexact H2
  isplitl [H3]; · iexists f3; isplitr; · ipureintro; exact h3
                  iexact H3
  isplitl [H4]; · iexists f4; isplitr; · ipureintro; exact h4
                  iexact H4
  isplitl [H5]
  · iexists _; isplitr; swap; · iexact H5
    ipureintro
    refine (View.read_writes_full _ _ _ _ _).trans ?_
    rw [show View.readAt (Elt F) arg3.view (Rect.unit (s := S1024x512) ![0, 0] S1024x512.size inb_S1024x512_S1024x512_0_0).toLoadRect f3 = w from (View.readAt_full _ _ _).trans h3,
      show View.readAt (Elt F) arg4.view (Rect.unit (s := S1x1024) ![0, 0] S1x1024.size inb_S1x1024_S1x1024_0_0).toLoadRect f4 = b from (View.readAt_full _ _ _).trans h4]
    refine congrArg (fun g => k0_pay3 g w b) ?_
    unfold body0.sl.v89
    refine (View.readAt_full _ _ _).trans ?_
    funext y
    refine planes_write arg6.view _ _ _ 7 (by decide) _ _ ?_ (gath_plane i arg2.view f2 X h2 T 7 _ _ e8 e7 _) y (y 1).isLt
    refine planes_write arg6.view _ _ _ 6 (by decide) _ _ ?_ (gath_plane i arg2.view f2 X h2 T 6 _ _ e8 e6 _)
    refine planes_write arg6.view _ _ _ 5 (by decide) _ _ ?_ (gath_plane i arg2.view f2 X h2 T 5 _ _ e8 e5 _)
    refine planes_write arg6.view _ _ _ 4 (by decide) _ _ ?_ (gath_plane i arg2.view f2 X h2 T 4 _ _ e8 e4 _)
    refine planes_write arg6.view _ _ _ 3 (by decide) _ _ ?_ (gath_plane i arg2.view f2 X h2 T 3 _ _ e8 e3 _)
    refine planes_write arg6.view _ _ _ 2 (by decide) _ _ ?_ (gath_plane i arg2.view f2 X h2 T 2 _ _ e8 e2 _)
    refine planes_write arg6.view _ _ _ 1 (by decide) _ _ ?_ (gath_plane i arg2.view f2 X h2 T 1 _ _ e8 e1 _)
    refine planes_write arg6.view _ _ _ 0 (by decide) _ _ ?_ (gath_plane i arg2.view f2 X h2 T 0 _ _ e8 e0 _)
    intro y hy
    exact absurd hy (Nat.not_lt_zero _)
  isplitl [H6]
  · iexists _, _; isplitr; swap; · iexact H6
    ipureintro; rfl
  iexact HT

end Cert.KernelIdeal.Own

end
-- ==== Proof.PadRegion.lean ====
/- The first layer's gather and gate product as a region: its proof data over eight blocks of 64 steps, the table of sequence
   starts held whole by the invariant, and the body's obligation where every start fits. -/
module

public import proofs.«01_k».proof.Proof.PadBody
public import proofs.«01_k».proof.Proof.Gen.KernelIdeal.Launch
public import proofs.«01_k».proof.Proof.Gen.KernelIdeal.Points
public import Idealize.ShloMosaic.Lib.Pipeline.RegionArraysTS
public import Idealize.ShloMosaic.Lib.WordCmp

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (a : (pcfg0 (F := F)).Adm) (V : Dev nD → Valuation τ sig (Elt F))

/-- The table of sequence starts. -/
abbrev tbl (a : (pcfg0 (F := F)).Adm) : S9.Idx → BitVec 32 := a.1 0

/-- The current staging memref of each window at point `t`, and its wholeness. -/
abbrev st0_0 (t : Fin (cfg0 a).N) : Memref sig .tc .vmem S2816x512 .f32 := spec0_0.stage ((cfg0 a).slots t 0)
abbrev st0_1 (t : Fin (cfg0 a).N) : Memref sig .tc .vmem S1024x512 .f32 := spec0_1.stage ((cfg0 a).slots t 1)
abbrev st0_2 (t : Fin (cfg0 a).N) : Memref sig .tc .vmem S1x1024 .f32 := spec0_2.stage ((cfg0 a).slots t 2)
abbrev st0_3 (t : Fin (cfg0 a).N) : Memref sig .tc .vmem S64x8x1024 .f32 := spec0_3.stage ((cfg0 a).slots t 3)

abbrev xM : Memref sig .tc .vmem S64x8x512 .f32 := Memref.whole cc0_scratch0

/-- The body at point `t`, on what the pipeline calls it with. -/
abbrev bodyAt0 (t : Fin (cfg0 a).N) : Prog (TpuEff nD τ sig (Elt F) Λ₀ .tc) PUnit :=
  cc0__pad_matmul_body (grid0.coords t) tabM htabM (st0_0 a t) (hstage0_0 (((cfg0 a).slots t 0).cast nbuf0_0))
    (st0_1 a t) (hstage0_1 (((cfg0 a).slots t 1).cast nbuf0_1)) (st0_2 a t) (hstage0_2 (((cfg0 a).slots t 2).cast nbuf0_2))
    (st0_3 a t) (hstage0_3 (((cfg0 a).slots t 3).cast nbuf0_3)) xM (Memref.isWhole_whole _)

/-- The scratch buffer at anything. -/
abbrev scr0 (c : Dev nD) : sProp 𝕄 := iprop(∃ d, owns (c : Thread nD τ) xM fullShare d)

/-- The other regions' scoped buffers. -/
abbrev rest0 (c : Dev nD) : sProp 𝕄 := Pipeline.scopedRestBut spec0 c [cc0_scratch0]

/-- Window `w`'s block at grid point `t`, read off its array as the region finds it. -/
def blk0 (c : Dev nD) (w : Fin (cfg0 a).W) (t : Fin (cfg0 a).N) : (((cfg0 a).win w).xblock ((cfg0 a).grid.coords t)).Idx → Elt F ((cfg0 a).win w).elt :=
  (((cfg0 a).win w).blk t).view.read (Elt F) (V c (Proc.devRef .tc (Pipeline.arrRef spec0 w)))

/-- The region's proof data. -/
def dat0 (c : Dev nD) : Dat τ (Elt F) Unit ℕ (UR sig nD τ) ℕ (cfg0 a) c where
  A w := V c (Proc.devRef .tc (Pipeline.arrRef spec0 w))
  after w t := match w with
    | ⟨0, _⟩ => blk0 a V c 0 t
    | ⟨1, _⟩ => blk0 a V c 1 t
    | ⟨2, _⟩ => blk0 a V c 2 t
    | ⟨3, _⟩ => k0_pay3 (gath (grid0.coords t) (tbl a) (blk0 a V c 0 t)) (blk0 a V c 1 t) (blk0 a V c 2 t)
  Φ _ := iprop((scr0 c ∗ rest0 c) ∗ tabPt c tabM (tbl a))
  q _ := fullShare
  owed _ := 0

theorem A0 (c : Dev nD) (w : Fin (cfg0 a).W) : (dat0 a V c).A w = V c (Proc.devRef .tc (Pipeline.arrRef spec0 w)) := by dsimp only [dat0]
theorem after0_0 (c : Dev nD) (t : Fin (cfg0 a).N) : (dat0 a V c).after 0 t = blk0 a V c 0 t := by dsimp only [dat0]; rfl
theorem after0_1 (c : Dev nD) (t : Fin (cfg0 a).N) : (dat0 a V c).after 1 t = blk0 a V c 1 t := by dsimp only [dat0]; rfl
theorem after0_2 (c : Dev nD) (t : Fin (cfg0 a).N) : (dat0 a V c).after 2 t = blk0 a V c 2 t := by dsimp only [dat0]; rfl
theorem after0_3 (c : Dev nD) (t : Fin (cfg0 a).N) : (dat0 a V c).after 3 t = k0_pay3 (gath (grid0.coords t) (tbl a) (blk0 a V c 0 t)) (blk0 a V c 1 t) (blk0 a V c 2 t) := by dsimp only [dat0]; rfl

theorem Phi0 (c : Dev nD) (t : Fin ((cfg0 a).N + 1)) : (dat0 a V c).Φ t = iprop((scr0 c ∗ rest0 c) ∗ tabPt c tabM (tbl a)) := by dsimp only [dat0]

/-- An input window's staging buffer holds its block when the body runs. -/
theorem before0_0 (c : Dev nD) (t : Fin (cfg0 a).N) (d) : (dat0 a V c).before 0 t d = blk0 a V c 0 t :=
  ((dat0 a V c).before_in_eq_fetched 0 rfl (fun _ => rfl) (fun _ _ _ => rfl) (fun t => by rw [after0_0]; unfold Dat.blockOf blk0; rw [A0]) t d).trans
    (by unfold Dat.fetched Dat.blockOf blk0; rw [A0]; rfl)
theorem before0_1 (c : Dev nD) (t : Fin (cfg0 a).N) (d) : (dat0 a V c).before 1 t d = blk0 a V c 1 t :=
  ((dat0 a V c).before_in_eq_fetched 1 rfl (fun _ => rfl) (fun _ _ _ => rfl) (fun t => by rw [after0_1]; unfold Dat.blockOf blk0; rw [A0]) t d).trans
    (by unfold Dat.fetched Dat.blockOf blk0; rw [A0]; rfl)
theorem before0_2 (c : Dev nD) (t : Fin (cfg0 a).N) (d) : (dat0 a V c).before 2 t d = blk0 a V c 2 t :=
  ((dat0 a V c).before_in_eq_fetched 2 rfl (fun _ => rfl) (fun _ _ _ => rfl) (fun t => by rw [after0_2]; unfold Dat.blockOf blk0; rw [A0]) t d).trans
    (by unfold Dat.fetched Dat.blockOf blk0; rw [A0]; rfl)

/-- What the body is called with at point `t`, the windows one by one, -/
def prea (c : Dev nD) (t : Fin (cfg0 a).N) : sProp 𝕄 :=
  iprop((dat0 a V c).Φ t.castSucc ∗ (dat0 a V c).owesAt () t.castSucc
    ∗ (∃ d, owns (c : Thread nD τ) (st0_0 a t) fullShare ((dat0 a V c).before 0 t d))
    ∗ (∃ d, owns (c : Thread nD τ) (st0_1 a t) fullShare ((dat0 a V c).before 1 t d))
    ∗ (∃ d, owns (c : Thread nD τ) (st0_2 a t) fullShare ((dat0 a V c).before 2 t d))
    ∗ (∃ d, owns (c : Thread nD τ) (st0_3 a t) fullShare ((dat0 a V c).before 3 t d)))

/-- and what it returns. -/
def post0 (c : Dev nD) (t : Fin (cfg0 a).N) : sProp 𝕄 :=
  iprop((dat0 a V c).Φ t.succ ∗ (dat0 a V c).owesAt () t.succ
    ∗ owns (c : Thread nD τ) (st0_0 a t) fullShare ((dat0 a V c).after 0 t)
    ∗ owns (c : Thread nD τ) (st0_1 a t) fullShare ((dat0 a V c).after 1 t)
    ∗ owns (c : Thread nD τ) (st0_2 a t) fullShare ((dat0 a V c).after 2 t)
    ∗ owns (c : Thread nD τ) (st0_3 a t) fullShare ((dat0 a V c).after 3 t))

theorem point0 (hT : ∀ t, Fits (grid0.coords t) (tbl a)) (c : Dev nD) (t : Fin (cfg0 a).N) :
    prea a V c t ⊢ wp frame (wpE (defs₀ (F := F)) Variants.none c none) Set.univ (bodyAt0 a t) (fun _ => post0 a V c t) := by
  unfold prea post0 bodyAt0
  simp only [before0_0, before0_1, before0_2]
  rw [show (dat0 a V c).owesAt () t.succ = (dat0 a V c).owesAt () t.castSucc from rfl, Phi0, Phi0,
    after0_0, after0_1, after0_2, after0_3]
  iintro ⟨⟨⟨HX, HR⟩, HT⟩, Ho, ⟨%d0, H0⟩, ⟨%d1, H1⟩, ⟨%d2, H2⟩, ⟨%d3, H3⟩⟩
  iapply (body0 c (grid0.coords t) _ _ _ _ _ _ _ _ _ _ (blk0 a V c 0 t) (blk0 a V c 1 t) (blk0 a V c 2 t) (tbl a) (hT t) Set.univ _)
  isplitl [H0]; · iexact H0
  isplitl [H1]; · iexact H1
  isplitl [H2]; · iexact H2
  isplitl [H3]; · iexists _; iexact H3
  isplitl [HX]; · iexact HX
  isplitl [HT]; · iexact HT
  iintro ⟨H0, H1, H2, H3, HX, HT⟩
  isplitl [HX HR HT]
  · isplitl [HX HR]
    · isplitl [HX]; · iexact HX
      iexact HR
    iexact HT
  isplitl [Ho]; · iexact Ho
  isplitl [H0]; · iexact H0
  isplitl [H1]; · iexact H1
  isplitl [H2]; · iexact H2
  iexact H3

theorem row0 (t : Fin (cfg0 a).N) : defs₀ (F := F) .tc (cfg0 a).body ((cfg0 a).bodyArgs t ((cfg0 a).slots t)) = bodyAt0 a t := by
  unfold defs₀; rw [Defs.onTc_tc]

/-- The body's obligation at every point. -/
theorem oblig0 (hT : ∀ t, Fits (grid0.coords t) (tbl a)) (c : Dev nD) : BodyObligation (dat0 a V c) (defs₀ (F := F)) Variants.none () Set.univ := fun t => by
  rw [bigSep_W0, bigSep_W0, row0]
  exact triple_restated (point0 a V hT c t) rfl .rfl fun _ => .rfl

theorem split0 (c : Dev nD) : (Pipeline.scopedRest spec0 c : sProp 𝕄) = iprop(scr0 c ∗ rest0 c) := by
  rw [scopedRest0_split]
  simp only [scr0, xM, owns_whole]; rfl

theorem tables0 (aa : (p : Fin 4) → (pcfgs (F := F) p).Adm) (c : Dev nD) :
    (Pipeline.tablesAt (Ix := Unit) (Name := ℕ) (U := UR sig nD τ) (Lvl := ℕ) pcfgs aa 0 c : sProp 𝕄) = tabPt c tabM (tbl (aa 0)) := by
  unfold Pipeline.tablesAt Pipeline.prefHeld
  rw [show (Finset.univ : Finset (Fin 1)) = {0} from by decide, bigSep_singleton]
  rfl

/-- The region starts from the scratch buffer at anything and the table, -/
theorem enter0 (aa : (p : Fin 4) → (pcfgs (F := F) p).Adm) (c : Dev nD) :
    iprop(iprop(Pipeline.scopedRest spec0 c ∗ emp) ∗ Pipeline.tablesAt pcfgs aa 0 c) ⊢ (dat0 (aa 0) V c).Φ 0 := by
  rw [Phi0, split0, tables0]
  iintro ⟨⟨H, -⟩, HT⟩
  isplitl [H]; · iexact H
  iexact HT

/-- and gives them back. -/
theorem leave0 (aa : (p : Fin 4) → (pcfgs (F := F) p).Adm) (c : Dev nD) :
    (dat0 (aa 0) V c).Φ (Fin.last (cfg0 (aa 0)).N) ⊢ iprop(iprop(Pipeline.scopedRest spec0 c ∗ emp) ∗ Pipeline.tablesAt pcfgs aa 0 c) := by
  rw [Phi0, split0, tables0]
  iintro ⟨H, HT⟩
  isplitl [H]
  · isplitl; · iexact H
    iempintro
  iexact HT

end Cert.KernelIdeal.Own

end
-- ==== Proof.Chain.lean ====
/- What every buffer holds along the program: the host stretches and the four regions in order, each from where the last one
   left off. -/
module

public import proofs.«01_k».proof.Proof.LstmRegion1
public import proofs.«01_k».proof.Proof.LstmRegion3
public import proofs.«01_k».proof.Proof.MatmulRegion
public import proofs.«01_k».proof.Proof.PadRegion
public import proofs.«01_k».proof.Proof.Gen.KernelIdeal.Regions

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg)
open Cert.KernelIdeal Cert.KernelIdeal.Gen

variable {F : FTy → Type} [FloatOps F]

local notation "𝕄" => MT nD τ sig Unit (Elt F) ℕ (UR sig nD τ) ℕ

/-- A region whose only output array is `r` changes that buffer alone. -/
theorem region_update {cfg : Cfg sig Λ₀} {c : Dev nD} (dat : Dat τ (Elt F) Unit ℕ (UR sig nD τ) ℕ cfg c) (V : Valuation τ sig (Elt F))
    (hinj : Function.Injective (Pipeline.arrRef cfg.spec)) (hA : ∀ w, dat.A w = V (Proc.devRef .tc (Pipeline.arrRef cfg.spec w)))
    (r : Ref sig .tc) (hr : ∀ w, Pipeline.arrRef cfg.spec w ≠ r → (cfg.win w).isOut = false) :
    Function.update V (Proc.devRef .tc r) (Pipeline.afterRegion dat V (Proc.devRef .tc r)) = Pipeline.afterRegion dat V := by
  funext b
  by_cases hb : b = Proc.devRef .tc r
  · subst hb; rw [Function.update_self]
  rw [Function.update_of_ne hb]
  by_cases h : ∃ w, b = Proc.devRef .tc (Pipeline.arrRef cfg.spec w)
  · obtain ⟨w, rfl⟩ := h
    have hw : Pipeline.arrRef cfg.spec w ≠ r := fun e => hb (e ▸ rfl)
    exact ((Pipeline.afterRegion_arr dat V hinj w).trans ((dat.arrAt_in w (hr w hw) _).trans (hA w))).symm
  · unfold Pipeline.afterRegion
    rw [dif_neg h]

variable (m : (ℓ : Loc nD τ sig) → Buf (Elt F) ℓ)

/-- The table's contents: the sequence starts as launched. -/
def adm0 : (pcfg0 (F := F)).Adm := ⟨fun j => m (((0 : Dev nD) : Thread nD τ).loc (pre0.ref j)), trivial⟩
/-- Every region's admissible table contents. -/
def aa : (p : Fin 4) → (pcfgs (F := F) p).Adm
  | ⟨0, _⟩ => adm0 m
  | ⟨1, _⟩ => cfg1.toPCfg_adm
  | ⟨2, _⟩ => cfg2.toPCfg_adm
  | ⟨3, _⟩ => cfg3.toPCfg_adm

/-- Each item's exit contents. -/
def X2 (c : Dev nD) : Valuation τ sig (Elt F) := Pipeline.afterRegion (dat0 (adm0 m) (V1 m) c) (V1 m c)
def X3 (c : Dev nD) : Valuation τ sig (Elt F) := StableHlo.after hostOps1 (X2 m c)
def X4 (c : Dev nD) : Valuation τ sig (Elt F) := Pipeline.afterRegion (dat1 (X3 m) c) (X3 m c)
def X5 (c : Dev nD) : Valuation τ sig (Elt F) := Pipeline.afterRegion (dat2 (X4 m) c) (X4 m c)
def X6 (c : Dev nD) : Valuation τ sig (Elt F) := StableHlo.after hostOps3 (X5 m c)
def X7 (c : Dev nD) : Valuation τ sig (Elt F) := Pipeline.afterRegion (dat3 (X6 m) c) (X6 m c)

/-- What the regions leave in their arrays. -/
def outs : Outs (F := F) := fun n r c => match n with
  | 2 => X2 m c r
  | 4 => X4 m c r
  | 5 => X5 m c r
  | _ => X7 m c r

theorem V2_eq (c : Dev nD) : V2 m (outs m) c = X2 m c :=
  region_update (dat0 (adm0 m) (V1 m) c) (V1 m c) (winFacts0.arr_inj) (A0 (adm0 m) (V1 m) c) main_v10
    fun w hw => match w with
      | ⟨0, _⟩ => rfl
      | ⟨1, _⟩ => rfl
      | ⟨2, _⟩ => rfl
      | ⟨3, _⟩ => absurd rfl hw
theorem V3_eq (c : Dev nD) : V3 m (outs m) c = X3 m c := by
  show StableHlo.after hostOps1 (V2 m (outs m) c) = _
  rw [V2_eq]; rfl
theorem V4_eq (c : Dev nD) : V4 m (outs m) c = X4 m c := by
  show Function.update (V3 m (outs m) c) _ _ = _
  rw [V3_eq]
  exact region_update (dat1 (X3 m) c) (X3 m c) (winFacts1.arr_inj) (A1 (X3 m) c) main_v16 (by decide)
theorem V5_eq (c : Dev nD) : V5 m (outs m) c = X5 m c := by
  show Function.update (V4 m (outs m) c) _ _ = _
  rw [V4_eq]
  exact region_update (dat2 (X4 m) c) (X4 m c) (winFacts2.arr_inj) (A2 (X4 m) c) main_v17 (by decide)
theorem V6_eq (c : Dev nD) : V6 m (outs m) c = X6 m c := by
  show StableHlo.after hostOps3 (V5 m (outs m) c) = _
  rw [V5_eq]; rfl
theorem V7_eq (c : Dev nD) : V7 m (outs m) c = X7 m c := by
  show Function.update (V6 m (outs m) c) _ _ = _
  rw [V6_eq]
  exact region_update (dat3 (X6 m) c) (X6 m c) (winFacts3.arr_inj) (A3 (X6 m) c) main_v23 (by decide)

/-- Every region's proof data. -/
def pdats : (p : Fin 4) → (c : Dev nD) → Dat τ (Elt F) Unit ℕ (UR sig nD τ) ℕ (Pipeline.pin (pcfgs (F := F)) (aa m) p) c
  | ⟨0, _⟩ => dat0 (adm0 m) (V1 m)
  | ⟨1, _⟩ => dat1 (X3 m)
  | ⟨2, _⟩ => dat2 (X4 m)
  | ⟨3, _⟩ => dat3 (X6 m)

end Cert.KernelIdeal.Own

end
-- ==== Proof.KernelRun.lean ====
/- The whole kernel: from any memory whose sequence starts fit, @main terminates, and every buffer of the program then
   holds what the chain of its seven items leaves there. -/
module

public import proofs.«01_k».proof.Proof.Chain
public import Idealize.ShloMosaic.Lib.Pipeline.RegionArraysTS
public import Idealize.ShloMosaic.Lib.Pipeline.RegionArraysS

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RegionSeg Seg LevelCut)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Every staging wait is at level zero, and no core owes another anything. -/
abbrev Lev : GSem nD τ sig → Finset Unit := fun g => if g.1.2 = .tc then {()} else ∅
abbrev lev : GSem nD τ sig → Unit → ℕ := fun _ _ => 0
abbrev nil : Dev nD → CellTallies nD τ sig Unit := fun _ => 0

theorem cut (p : Fin 4) : LevelCut (pcfgs (F := F)) (aa m) () Lev lev p nil (fun _ => 0) where
  hι c w s := (show Lev ((c : Thread nD τ), _) = {()} from if_pos rfl) ▸ Finset.mem_singleton_self ()
  hιb _ _ _ := le_rfl
  hD _ _ _ h := absurd h (lt_irrefl _)

/-- What rides beside the buffers between two items. -/
abbrev E : Fin 5 → Dev nD → sProp 𝕄 := fun _ c => iprop((∃ Wd, owes (c : Thread nD τ) (nil c) Wd) ∗ emp ∗ emp)

theorem tab_at (c : Dev nD) (k : Fin 1) : (aa m 0).1 k = V1 m c (Proc.devRef .tc (pre0.ref k)) := by
  obtain rfl : c = 0 := Subsingleton.elim _ _
  match k with
  | 0 => exact (V1_of m 0 main_arg1 (by decide)).symm

theorem sub0 : Pipeline.arrRefs (τ := τ) spec0 ⊆ Pipeline.ucRefs τ sig := Pipeline.arrRefs_sub_ucRefs _ (by decide)
theorem sub1 : Pipeline.arrRefs (τ := τ) spec1 ⊆ Pipeline.ucRefs τ sig := Pipeline.arrRefs_sub_ucRefs _ (by decide)
theorem sub2 : Pipeline.arrRefs (τ := τ) spec2 ⊆ Pipeline.ucRefs τ sig := Pipeline.arrRefs_sub_ucRefs _ (by decide)
theorem sub3 : Pipeline.arrRefs (τ := τ) spec3 ⊆ Pipeline.ucRefs τ sig := Pipeline.arrRefs_sub_ucRefs _ (by decide)
theorem tabSub : Pipeline.tblRefs (τ := τ) pre0 ⊆ Pipeline.ucRefs τ sig := Pipeline.tblRefs_sub_ucRefs _ (by decide)

section Regions

variable (hT : ∀ t, Fits (grid0.coords t) (tbl (adm0 m)))

def R0 : RegionSeg (pcfgs (F := F)) (aa m) (pdats m) () defs₀ Variants.none Lev lev 0 :=
  RegionSeg.ofHeldInT (pcfgs (F := F)) (aa m) (pdats m) () defs₀ Variants.none Lev lev 0 nil (Pipeline.ucRefs τ sig) (fun _ => iprop(emp)) (fun _ => iprop(emp))
    launch0 (fun c => (oblig0 (adm0 m) (V1 m) hT c).loose) (fun _ _ => rfl) (fun _ => rfl)
    (fun c => (dat0 (adm0 m) (V1 m) c).share_full fun _ => rfl)
    (fun c => enter0 (V1 m) (aa m) c) (fun c => leave0 (V1 m) (aa m) c) (fun _ => 0) (cut m 0) (fun _ => iprop(emp)) (V1 m)
    (fun c w => A0 (adm0 m) (V1 m) c w) (tab_at m)

def R1 : RegionSeg (pcfgs (F := F)) (aa m) (pdats m) () defs₀ Variants.none Lev lev 1 :=
  RegionSeg.ofHeldIn (pcfgs (F := F)) (aa m) (pdats m) () defs₀ Variants.none Lev lev 1 nil (Pipeline.ucRefs τ sig) (fun _ => iprop(emp)) (fun _ => iprop(emp))
    launch1 rfl (fun c => (oblig1 (X3 m) c).loose) (fun _ _ => rfl) (fun _ => rfl) (fun c => (dat1 (X3 m) c).share_full fun _ => rfl)
    (fun c => enter1 (X3 m) c) (fun c => leave1 (X3 m) c) (fun _ => 0) (cut m 1) (fun _ => iprop(emp)) (X3 m) (fun c w => A1 (X3 m) c w)

def R2 : RegionSeg (pcfgs (F := F)) (aa m) (pdats m) () defs₀ Variants.none Lev lev 2 :=
  RegionSeg.ofHeldIn (pcfgs (F := F)) (aa m) (pdats m) () defs₀ Variants.none Lev lev 2 nil (Pipeline.ucRefs τ sig) (fun _ => iprop(emp)) (fun _ => iprop(emp))
    launch2 rfl (fun c => (oblig2 (X4 m) c).loose) (fun _ _ => rfl) (fun _ => rfl) (fun c => (dat2 (X4 m) c).share_full fun _ => rfl)
    (fun c => enter2 (X4 m) c) (fun c => leave2 (X4 m) c) (fun _ => 0) (cut m 2) (fun _ => iprop(emp)) (X4 m) (fun c w => A2 (X4 m) c w)

def R3 : RegionSeg (pcfgs (F := F)) (aa m) (pdats m) () defs₀ Variants.none Lev lev 3 :=
  RegionSeg.ofHeldIn (pcfgs (F := F)) (aa m) (pdats m) () defs₀ Variants.none Lev lev 3 nil (Pipeline.ucRefs τ sig) (fun _ => iprop(emp)) (fun _ => iprop(emp))
    launch3 rfl (fun c => (oblig3 (X6 m) c).loose) (fun _ _ => rfl) (fun _ => rfl) (fun c => (dat3 (X6 m) c).share_full fun _ => rfl)
    (fun c => enter3 (X6 m) c) (fun c => leave3 (X6 m) c) (fun _ => 0) (cut m 3) (fun _ => iprop(emp)) (X6 m) (fun c w => A3 (X6 m) c w)

/-- The buffers the program declares outside its kernels, at the contents `V`, with what the core owes. -/
abbrev At (V : Dev nD → Valuation τ sig (Elt F)) (c : Dev nD) : sProp 𝕄 :=
  iprop(StableHlo.held (c : Thread nD τ) (Pipeline.ucRefs τ sig) (V c) ∗ ((∃ Wd, owes (c : Thread nD τ) (nil c) Wd) ∗ emp ∗ emp))

theorem pre0_at (c : Dev nD) : At (V1 m) c ⊢ (R0 m hT).pre c := by
  unfold At R0
  exact RegionSeg.ofHeldInT_pre (pcs := pcfgs (F := F)) (a := aa m) (pdats := pdats m) (p := 0) (D := nil) (X := fun _ => iprop(emp)) (R := fun _ => iprop(emp)) (W := V1 m) sub0 tabSub c
theorem post0_at (c : Dev nD) : (R0 m hT).post c ⊢ At (V2 m (outs m)) c := by
  unfold At; rw [V2_eq]
  exact RegionSeg.ofHeldInT_post (pcs := pcfgs (F := F)) (a := aa m) (pdats := pdats m) (p := 0) sub0 tabSub c
theorem pre1_at (c : Dev nD) : At (V3 m (outs m)) c ⊢ (R1 m).pre c := by
  unfold At; rw [V3_eq]; exact RegionSeg.ofHeldIn_pre (pcs := pcfgs (F := F)) (a := aa m) (pdats := pdats m) (p := 1) (D := nil) (X := fun _ => iprop(emp)) (R := fun _ => iprop(emp)) (W := X3 m) sub1 c
theorem post1_at (c : Dev nD) : (R1 m).post c ⊢ At (V4 m (outs m)) c := by
  unfold At; rw [V4_eq]; exact RegionSeg.ofHeldIn_post (pcs := pcfgs (F := F)) (a := aa m) (pdats := pdats m) (p := 1) sub1 c
theorem pre2_at (c : Dev nD) : At (V4 m (outs m)) c ⊢ (R2 m).pre c := by
  unfold At; rw [V4_eq]; exact RegionSeg.ofHeldIn_pre (pcs := pcfgs (F := F)) (a := aa m) (pdats := pdats m) (p := 2) (D := nil) (X := fun _ => iprop(emp)) (R := fun _ => iprop(emp)) (W := X4 m) sub2 c
theorem post2_at (c : Dev nD) : (R2 m).post c ⊢ At (V5 m (outs m)) c := by
  unfold At; rw [V5_eq]; exact RegionSeg.ofHeldIn_post (pcs := pcfgs (F := F)) (a := aa m) (pdats := pdats m) (p := 2) sub2 c
theorem pre3_at (c : Dev nD) : At (V6 m (outs m)) c ⊢ (R3 m).pre c := by
  unfold At; rw [V6_eq]; exact RegionSeg.ofHeldIn_pre (pcs := pcfgs (F := F)) (a := aa m) (pdats := pdats m) (p := 3) (D := nil) (X := fun _ => iprop(emp)) (R := fun _ => iprop(emp)) (W := X6 m) sub3 c
theorem post3_at (c : Dev nD) : (R3 m).post c ⊢ At (V7 m (outs m)) c := by
  unfold At; rw [V7_eq]; exact RegionSeg.ofHeldIn_post (pcs := pcfgs (F := F)) (a := aa m) (pdats := pdats m) (p := 3) sub3 c

/-- The launch element: the staging cells' and the pipelines' transfers. -/
def seed : UR sig nD τ := initOf (Pipeline.cells (Pipeline.pin (pcfgs (F := F)) (aa m)) (cellOf_inj (aa m))) (Pipeline.launchToks (Pipeline.pin (pcfgs (F := F)) (aa m)) (cellOf_inj (aa m)))

theorem seed_deal : (ownU (seed m) : sProp 𝕄) ⊢ |={Set.univ}=> iprop(BI.own (emb₁ (initOf (Pipeline.cells (Pipeline.pin (pcfgs (F := F)) (aa m)) (cellOf_inj (aa m)))
    (Pipeline.launchToks (Pipeline.pin (pcfgs (F := F)) (aa m)) (cellOf_inj (aa m))))) ∗ bigSep Finset.univ fun _ : Dev nD => (BI.emp : sProp 𝕄)) := by
  rw [ownU_emb₁, BI.bigSep_emp_const]
  iintro H
  imodintro
  isplitl [H]; · iexact H
  iempintro

include hT in
set_option backward.isDefEq.respectTransparency.types false in
/-- Every run of @main ends with each buffer at what the chain leaves there, and every semaphore counter at zero. -/
theorem run_main (ρ : Dev nD → PrngReg) :
    θ_run defs (onTc (τ := τ) (main (F := F))) ⟨m, fun _ => 0, ρ⟩ (fun r => (∀ (c : Dev nD) (b : Ref sig .tc), b.isScoped = false →
      r.2.mem ((c : Thread nD τ).loc b) = V7 m (outs m) c (Proc.devRef .tc b)) ∧ r.2.sem = fun _ => 0) := by
  refine Pipeline.θ_run_regions_kit_dev_sems (pcfgs (F := F)) (aa m) (pdats m) () (cellOf_inj (aa m)) emb₁ defs₀ Variants.none Lev lev m ρ main
    (segs m (outs m) Variants.none Lev lev E () (aa m) (pdats m) (R0 m hT) (R1 m) (R2 m) (R3 m))
    (fun c Q => ?_) (fun c => by simp only [segs, Seg.pipes_host, Seg.pipes_region, Seg.pipes_nil]; decide)
    nil (fun g h => if_neg h) (fun _ => iprop(emp)) (seed m) (seed_deal m)
    (At (V0 m)) (fun c => StableHlo.held (c : Thread nD τ) (Pipeline.ucRefs τ sig) (V7 m (outs m) c))
    (fun c => ⟨.rfl, pre0_at m hT c, post0_at m hT c, pre1_at m c, (post1_at m c).trans (pre2_at m c), post2_at m c, pre3_at m c,
      (post3_at m c).trans (sep_mono .rfl ?_)⟩)
    (Pipeline.initEach Lev lev fun c => ?_)
    (fun c s => ∀ b : Ref sig .tc, b.isScoped = false → s.mem ((c : Thread nD τ).loc b) = V7 m (outs m) c (Proc.devRef .tc b))
    (fun c s' => ?_) (fun _ h hz => ⟨h, funext fun g => hz g (.inr (regions_no_unscoped g.2))⟩)
  · rewrite [main_chain c, Seg.run_eq_chain]
    exact .rfl
  · iintro ⟨H, -⟩; iexact H
  · rw [show unscopedBufs c (fun b => m ((c : Thread nD τ).loc b)) = StableHlo.held (c : Thread nD τ) (Pipeline.ucRefs τ sig) (V0 m c) from
      Pipeline.unscopedBufs_held c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro
      exact fun b hb => h (Proc.devRef .tc b) (Finset.mem_filter.mpr ⟨StableHlo.devRef_mem_tcRefs b, by simp [hb]⟩)
    · iexact HSI

end Regions

end Cert.KernelIdeal.Own

end
-- ==== Proof.Starts.lean ====
/- What the precondition says of the sequence starts, and the row each gather begins at. -/
module

public import proofs.«01_k».proof.Defs
public import proofs.«01_k».proof.Proof.Gen.Pre_starts_fit
public import proofs.«01_k».proof.Proof.PadBody
public import Idealize.ShloMosaic.Lib.Pointwise

@[expose] public section

namespace Cert.KernelIdeal.Own

open Idealize.ShloMosaic Idealize.ShloMosaic.TcCoe
open Cert.KernelIdeal Cert.KernelIdeal.Gen

variable {F : FTy → Type} [FloatOps F]

/-- Every start is at most the last one, at most 2752, and a multiple of eight. -/
def Sound (T : S9.Idx → BitVec 32) : Prop := ∀ k : Fin 9, (T (ix1 k)).toNat ≤ (T (ix1 8)).toNat ∧ (T (ix1 k)).toNat ≤ 2752 ∧ 8 ∣ (T (ix1 k)).toNat

theorem mult8 (w : BitVec 32) (h : IntOp.andi w 7#32 = 0#32) : 8 ∣ w.toNat := by
  have e : (w &&& 7#32).toNat = 0 := by rw [show w &&& 7#32 = 0#32 from h]; rfl
  rw [BitVec.toNat_and] at e
  have : w.toNat % 2 ^ 3 = 0 := by rw [← Nat.and_two_pow_sub_one_eq_mod]; exact e
  omega

/-- The precondition at the starts. -/
theorem sound_of_pre (a0 : FVec F Cert.Pre_starts_fit.S2752x512 .f32) (T : IVec Cert.Pre_starts_fit.S9 32) (a2 a3 : FVec F Cert.Pre_starts_fit.S2x8x256 .f32)
    (a4 : FVec F Cert.Pre_starts_fit.S1024x512 .f32) (a5 : FVec F Cert.Pre_starts_fit.S1024x256 .f32) (a6 a7 : FVec F Cert.Pre_starts_fit.S1024 .f32)
    (a8 a9 : FVec F Cert.Pre_starts_fit.S1024x256 .f32) (a10 a11 : FVec F Cert.Pre_starts_fit.S1024 .f32)
    (h : Cert.Pre_starts_fit.fn (F := F) a0 T a2 a3 a4 a5 a6 a7 a8 a9 a10 a11 = fun _ => 1#1) : Sound T := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  intro k
  have e := congrFun h (ix1 k)
  simp only [Cert.Pre_starts_fit.fn, andi, cmpi, broadcastInDim, constantI, IntOp.cmpi, andi_ofBool, ofBool_eq_one, Bool.and_eq_true] at e
  obtain ⟨⟨⟨h0, h1⟩, h2⟩, h3⟩ := e
  have e8 : ∀ x, shapeCast Cert.Pre_starts_fit.S_ (extractStridedSlice Cert.Pre_starts_fit.S1 ![8] T Cert.Pre_starts_fit.Facts.slices_S9_S1_8)
      Cert.Pre_starts_fit.Facts.shapeCasts_S1_S_ x = T (ix1 8) := fun x => by
    pointwise
  rw [e8] at h1
  simp only [BitVec.sle, decide_eq_true_eq, BitVec.toInt, BitVec.toNat_ofNat] at h0 h1 h2
  refine ⟨by omega, by omega, mult8 _ (by simpa using h3)⟩

/-- The row the gather of 64 rows begins at: the sequence's start plus the rows already gathered, but at most the last start. -/
theorem start_word (i : grid0.Coords) (last v : BitVec 32) (hl : last.toNat ≤ 2752) (hv : v.toNat ≤ 2752) :
    (k0_mult1 i last v).toNat = min (v.toNat + 64 * (i 0).val) last.toNat := by
  have hi : (i 0).val < 8 := (i 0).isLt
  have e : (v + BitVec.ofNat 32 (i 0).val * 64#32).toNat = v.toNat + 64 * (i 0).val := by
    rw [BitVec.toNat_add, BitVec.toNat_mul, BitVec.toNat_ofNat, BitVec.toNat_ofNat]; omega
  show (if (v + BitVec.ofNat 32 (i 0).val * 64#32).slt last then v + BitVec.ofNat 32 (i 0).val * 64#32 else last).toNat = _
  have hs : (v + BitVec.ofNat 32 (i 0).val * 64#32).slt last = decide (v.toNat + 64 * (i 0).val < last.toNat) := by
    simp only [BitVec.slt, BitVec.toInt, e]
    refine decide_eq_decide.mpr ?_
    omega
  rw [hs]
  by_cases h : v.toNat + 64 * (i 0).val < last.toNat
  · rw [decide_eq_true h, if_pos rfl, e]; omega
  · rw [decide_eq_false h, if_neg (by decide)]; omega

theorem startRow_eq (i : grid0.Coords) (last v : BitVec 32) (hl : last.toNat ≤ 2752) (hv : v.toNat ≤ 2752) :
    startRow i last v = min (v.toNat + 64 * (i 0).val) last.toNat := by
  rw [← start_word i last v hl hv]
  rfl

/-- Starts that fit satisfy every condition the gather assumes. -/
theorem fits (T : S9.Idx → BitVec 32) (h : Sound T) (i : grid0.Coords) : Fits i T := fun b => by
  have h8 := h 8
  have hb := h b.castSucc
  have hr := startRow_eq i _ _ h8.2.1 hb.2.1
  refine ⟨?_, fun a => ?_⟩
  · rw [start_word i _ _ h8.2.1 hb.2.1]
    rcases min_choice ((T (ix1 b.castSucc)).toNat + 64 * (i 0).val) (T (ix1 8)).toNat with e | e <;> rw [e] <;> omega
  · match a with
    | 0 =>
      show startRow i _ _ + 64 ≤ 2816
      rw [hr]; omega
    | 1 => exact (show 0 + 512 ≤ 512 by decide)

end Cert.KernelIdeal.Own
-- ==== Proof.SameBodies.lean ====
/- The program read over the words and the program read over the extended reals have one text: each part of the first is, by
   definition, that part of the second at the same float values. This module: the four kernel bodies. -/
module

public import proofs.«01_k».proof.Proof.Gen.KernelIdeal
public import proofs.«01_k».proof.Proof.Gen.Kernel

@[expose] public section

set_option maxRecDepth 100000
set_option maxHeartbeats 400000

noncomputable section

namespace Cert.KernelIdeal.Own

open Idealize.ShloMosaic Idealize.ShloMosaic.TcCoe Idealize.SL Idealize.SL.Sem
open Cert.KernelIdeal

variable {F : FTy → Type} [FloatOps F]

/-- The kernels' bodies. -/
theorem body0_same : @Cert.Kernel.cc0__pad_matmul_body F _ _ = @cc0__pad_matmul_body F _ _ := rfl
theorem body1_same : @Cert.Kernel.cc1__lstm_body F _ _ = @cc1__lstm_body F _ _ := rfl
theorem body2_same : @Cert.Kernel.cc2__matmul_body F _ _ = @cc2__matmul_body F _ _ := rfl
theorem body3_same : @Cert.Kernel.cc3__lstm_body F _ _ = @cc3__lstm_body F _ _ := rfl

end Cert.KernelIdeal.Own

end
-- ==== Proof.SameProgram.lean ====
/- The program read over the words and the program read over the extended reals have one text: each part of the first is, by
   definition, that part of the second at the same float values. What is proved of the second at any float values is so proved
   of the first. -/
module

public import proofs.«01_k».proof.Proof.SameBodies
public import proofs.«01_k».proof.Proof.Gen.KernelIdeal.Regions
public import proofs.«01_k».proof.Proof.Gen.Kernel.Regions

@[expose] public section

set_option maxRecDepth 100000
set_option maxHeartbeats 2000000

noncomputable section

namespace Cert.KernelIdeal.Own

open Idealize.ShloMosaic Idealize.ShloMosaic.TcCoe Idealize.SL Idealize.SL.Sem
open Cert.KernelIdeal Cert.KernelIdeal.Gen

variable {F : FTy → Type} [FloatOps F]

/-- The table of the bodies, and the four calls. -/
theorem bodies_same : @Cert.Kernel.defs₀ F _ _ = @defs₀ F _ _ := by
  refine congrArg Defs.onTc (funext fun l => funext fun a => ?_)
  match l, a with
  | 0, (t, s) =>
    show Cert.Kernel.cc0__pad_matmul_body .. = _
    rw [body0_same]; rfl
  | 1, (t, s) =>
    show Cert.Kernel.cc1__lstm_body .. = _
    rw [body1_same]; rfl
  | 2, (t, s) =>
    show Cert.Kernel.cc2__matmul_body .. = _
    rw [body2_same]; rfl
  | 3, (t, s) =>
    show Cert.Kernel.cc3__lstm_body .. = _
    rw [body3_same]; rfl
theorem calls_same : @Cert.Kernel.pcfgs F _ _ = @pcfgs F _ _ := rfl
/-- The host's stretches. -/
theorem host0_same : @Cert.Kernel.Gen.hostOps0 F _ = @hostOps0 F _ := rfl
theorem host1_same : @Cert.Kernel.Gen.hostOps1 F _ = @hostOps1 F _ := rfl
theorem host3_same : @Cert.Kernel.Gen.hostOps3 F _ = @hostOps3 F _ := rfl

/-- @main around any four calls. -/
def mainOf (pcs : Fin 4 → Pipeline.PCfg sig Λ₀ (Elt F)) :
    Dev nD → Prog (TpuEff nD τ sig (Elt F) (Pipeline.Sig Λ₀ (Fin 4) fun p => (pcs p).Adm) .tc) PUnit := fun _ => Pipeline.chain
  [ StableHlo.seq hostOps0, Prog.lift (.customCall (Pipeline.entry 0) ()),
    StableHlo.seq hostOps1, Prog.lift (.customCall (Pipeline.entry 1) ()), Prog.lift (.customCall (Pipeline.entry 2) ()),
    StableHlo.seq hostOps3, Prog.lift (.customCall (Pipeline.entry 3) ()) ]

theorem main_of : main (F := F) = mainOf pcfgs := funext main_chain
theorem main_of_words : Cert.Kernel.main (F := F) = mainOf (F := F) Cert.Kernel.pcfgs := by
  funext c
  rw [Cert.Kernel.Gen.main_chain, host0_same, host1_same, host3_same]
  rfl

/-- A run of the one is a run of any program whose parts are the one's. -/
theorem run_of_same (pcs : Fin 4 → Pipeline.PCfg sig Λ₀ (Elt F)) (hp : pcs = pcfgs) (d : Defs nD τ sig (Elt F) Λ₀) (hd : d = defs₀)
    (s : MemSt nD τ sig (Elt F)) (Q : PUnit × MemSt nD τ sig (Elt F) → Prop)
    (h : θ_run (defs (F := F)) (onTc (τ := τ) (main (F := F))) s Q) : θ_run (Pipeline.defs pcs d) (onTc (τ := τ) (mainOf pcs)) s Q := by
  subst hp hd
  rw [main_of] at h
  exact h

/-- A run of the program over the extended reals' text is a run of the program over the words'. -/
theorem run_words (s : MemSt nD τ sig (Elt F)) (Q : PUnit × MemSt nD τ sig (Elt F) → Prop)
    (h : θ_run (defs (F := F)) (onTc (τ := τ) (main (F := F))) s Q) :
    θ_run (Cert.Kernel.defs (F := F)) (onTc (τ := Cert.Kernel.τ) (Cert.Kernel.main (F := F))) s Q := by
  rw [main_of_words]
  exact run_of_same Cert.Kernel.pcfgs calls_same Cert.Kernel.defs₀ bodies_same s Q h

end Cert.KernelIdeal.Own

end
-- ==== Proof.KernelFrame.lean ====
/- The kernel under its precondition: it terminates, leaves its arguments and every semaphore counter as they were — read over
   the words, and over the extended reals. -/
module

public import proofs.«01_k».proof.Proof.KernelRun
public import proofs.«01_k».proof.Proof.Starts
public import proofs.«01_k».proof.Proof.Gen.Kernel
public import proofs.«01_k».proof.Proof.SameProgram

@[expose] public section

set_option maxRecDepth 16384

namespace Cert.KernelIdeal.Own

open Idealize.ShloMosaic Idealize.ShloMosaic.TcCoe
open Idealize.SL Idealize.SL.Sem
open Cert.KernelIdeal Cert.KernelIdeal.Gen

variable {F : FTy → Type} [FloatOps F]

/-- From starts that fit, the arguments end as launched, the result at what the chain leaves, and every counter at zero. -/
theorem run_sound (m : (ℓ : Loc nD τ sig) → Buf (Elt F) ℓ) (ρ : Dev nD → PrngReg) (h : Sound (tbl (adm0 m))) :
    θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) ∧ ∀ c : Dev nD, r.2.mem ((c.tc : Thread nD τ).loc main_v23) = X7 m c (Proc.devRef .tc main_v23)) := by
  refine (θ_run defs _ _).mono (fun r hr => ⟨⟨fun c => ?_, hr.2⟩, fun c => ?_⟩) (run_main m (fun t => fits _ h _) ρ)
  · have e := hr.1 c
    exact ⟨(e main_arg0 rfl).trans (V7_main_arg0 m _ c), (e main_arg1 rfl).trans (V7_main_arg1 m _ c), (e main_arg2 rfl).trans (V7_main_arg2 m _ c),
      (e main_arg3 rfl).trans (V7_main_arg3 m _ c), (e main_arg4 rfl).trans (V7_main_arg4 m _ c), (e main_arg5 rfl).trans (V7_main_arg5 m _ c),
      (e main_arg6 rfl).trans (V7_main_arg6 m _ c), (e main_arg7 rfl).trans (V7_main_arg7 m _ c), (e main_arg8 rfl).trans (V7_main_arg8 m _ c),
      (e main_arg9 rfl).trans (V7_main_arg9 m _ c), (e main_arg10 rfl).trans (V7_main_arg10 m _ c), (e main_arg11 rfl).trans (V7_main_arg11 m _ c)⟩
  · rw [hr.1 c main_v23 rfl, V7_eq]

/-- The precondition says the starts fit. -/
theorem sound_ideal (m : (ℓ : Loc nD τ sig) → Buf (Elt Ideal) ℓ) (h : Cert.Pre_KernelIdeal m) : Sound (tbl (adm0 m)) :=
  sound_of_pre _ _ _ _ _ _ _ _ _ _ _ _ (h 0)

theorem quiescent_ideal : Cert.quiescent_KernelIdeal := fun m ρ h => (θ_run defs _ _).mono (fun _ hr => hr.1) (run_sound m ρ (sound_ideal m h))

/-- The program read over the words is the same program. -/
theorem quiescent_bits : Cert.quiescent_Kernel := fun m ρ h =>
  run_words ⟨m, fun _ => 0, ρ⟩ _
    ((θ_run (defs (F := Bits)) _ _).mono (fun _ hr => hr.1) (run_sound (F := Bits) m ρ (sound_of_pre _ _ _ _ _ _ _ _ _ _ _ _ (h 0))))

end Cert.KernelIdeal.Own
-- ==== Proof.ReferenceFrame.lean ====
/- The reference terminates and leaves its arguments and every semaphore counter as they were. -/
module

public import proofs.«01_k».proof.Defs
public import proofs.«01_k».proof.Proof.Gen.ReferenceIdeal.Run
public import proofs.«01_k».proof.Proof.Gen.Pre_starts_fit
public import Idealize.ShloMosaic.Lib.Quiescent

@[expose] public section

namespace Cert.ReferenceIdeal.Own

open Idealize.ShloMosaic Idealize.ShloMosaic.TcCoe
open Idealize.SL Idealize.SL.Sem
open Cert.ReferenceIdeal Cert.ReferenceIdeal.Gen

theorem quiescent : Cert.quiescent_ReferenceIdeal := fun m ρ _ =>
  (θ_run defs _ _).mono (fun r hr => ⟨fun c => (hr c).2, sem_eq_zero_of_no_sems (by decide) r.2⟩) (Cert.ReferenceIdeal.Value.run m ρ)

theorem quiescent_pre : Cert.quiescent_ReferenceIdeal_pre_starts_fit := fun m ρ _ =>
  (θ_run defs _ _).mono (fun r hr => ⟨fun c => (hr c).2, sem_eq_zero_of_no_sems (by decide) r.2⟩) (Cert.ReferenceIdeal.Value.run m ρ)

end Cert.ReferenceIdeal.Own
-- ==== Proof.LayerSpec.lean ====
/- What both programs compute, one packed sequence at a time, over the extended reals: a recurrent layer as a recursion over
   time on the rows of its state, the two layers one over the other, and the mask. -/
module

public import Idealize.ShloMosaic.Lib.Pointwise

@[expose] public section

noncomputable section

namespace Cert.Lstm

open Idealize.ShloMosaic

/-- A hidden and a cell row. -/
abbrev Row := (Fin 256 → EReal) × (Fin 256 → EReal)

/-- The gates before their nonlinearities: the input's share and the hidden row's. -/
def gates (W : Fin 1024 → Fin 256 → EReal) (x : Fin 1024 → EReal) (h : Fin 256 → EReal) : Fin 1024 → EReal :=
  fun q => x q + ∑ k, h k * W q k

/-- The new cell value from the gates and the old one: forget gate times the old, input gate times the candidate. -/
def cellC (g : Fin 1024 → EReal) (c : EReal) (j : Fin 256) : EReal :=
  Ideal.logistic (g ⟨256 + j.val, by omega⟩) * c + Ideal.logistic (g ⟨j.val, by omega⟩) * Ideal.tanh (g ⟨512 + j.val, by omega⟩)

/-- The new hidden value: output gate times the squashed cell. -/
def cellH (g : Fin 1024 → EReal) (c : EReal) (j : Fin 256) : EReal :=
  Ideal.logistic (g ⟨768 + j.val, by omega⟩) * Ideal.tanh (cellC g c j)

/-- One step of a layer. -/
def stepRow (W : Fin 1024 → Fin 256 → EReal) (x : Fin 1024 → EReal) (s : Row) : Row :=
  (fun j => cellH (gates W x s.1) (s.2 j) j, fun j => cellC (gates W x s.1) (s.2 j) j)

/-- A layer's state after `n` steps. -/
def layer (W : Fin 1024 → Fin 256 → EReal) (X : ℕ → Fin 1024 → EReal) (s : Row) : ℕ → Row
  | 0 => s
  | n + 1 => stepRow W (X n) (layer W X s n)

theorem layer_zero (W : Fin 1024 → Fin 256 → EReal) (X : ℕ → Fin 1024 → EReal) (s : Row) : layer W X s 0 = s := rfl
theorem layer_succ (W : Fin 1024 → Fin 256 → EReal) (X : ℕ → Fin 1024 → EReal) (s : Row) (n : ℕ) :
    layer W X s (n + 1) = stepRow W (X n) (layer W X s n) := rfl

/-- The state after `n` steps depends on the first `n` inputs only. -/
theorem layer_congr (W : Fin 1024 → Fin 256 → EReal) (X Y : ℕ → Fin 1024 → EReal) (s : Row) (n : ℕ) (h : ∀ t < n, X t = Y t) :
    layer W X s n = layer W Y s n := by
  induction n with
  | zero => rfl
  | succ n ih => rw [layer_succ, layer_succ, ih fun t ht => h t (by omega), h n (by omega)]

/-- Running on from a reached state. -/
theorem layer_add (W : Fin 1024 → Fin 256 → EReal) (X : ℕ → Fin 1024 → EReal) (s : Row) (m n : ℕ) :
    layer W X s (m + n) = layer W (fun t => X (m + t)) (layer W X s m) n := by
  induction n with
  | zero => rfl
  | succ n ih => rw [← Nat.add_assoc, layer_succ, layer_succ, ih]

/-- A dense product with a bias. -/
def dense {n : ℕ} (W : Fin 1024 → Fin n → EReal) (v : Fin 1024 → EReal) (x : Fin n → EReal) : Fin 1024 → EReal :=
  fun q => ∑ k, x k * W q k + v q

/-- The mask of step `t` of a sequence whose length is the word `len`. -/
def mask (t : ℕ) (len : BitVec 32) : EReal := if (BitVec.ofNat 32 t).slt len then 1 else 0

theorem mask_unsigned (t : ℕ) (len : BitVec 32) :
    FloatOps.uitofp (F := Ideal) .f32 (IntOp.cmpi .slt (BitVec.ofNat 32 t) len) = mask t len := by
  show (((BitVec.ofBool ((BitVec.ofNat 32 t).slt len)).toNat : ℝ) : EReal) = mask t len
  unfold mask
  cases (BitVec.ofNat 32 t).slt len <;> simp

theorem mask_signed (t : ℕ) (len : BitVec 32) :
    FloatOps.sitofp (F := Ideal) .f32 (BitVec.setWidth 32 (IntOp.cmpi .slt (BitVec.ofNat 32 t) len)) = mask t len := by
  show (((BitVec.setWidth 32 (BitVec.ofBool ((BitVec.ofNat 32 t).slt len))).toInt : ℝ) : EReal) = mask t len
  unfold mask
  cases (BitVec.ofNat 32 t).slt len <;> simp

/-- Both layers over a sequence of input rows `x`: the first layer's gate inputs, the second's, and the second's hidden row. -/
structure Weights where
  Wi0 : Fin 1024 → Fin 512 → EReal
  Wh0 : Fin 1024 → Fin 256 → EReal
  v0 : Fin 1024 → EReal
  Wi1 : Fin 1024 → Fin 256 → EReal
  Wh1 : Fin 1024 → Fin 256 → EReal
  v1 : Fin 1024 → EReal

/-- The first layer after `n` steps over the input rows `x`. -/
def first (P : Weights) (x : ℕ → Fin 512 → EReal) (s : Row) (n : ℕ) : Row := layer P.Wh0 (fun t => dense P.Wi0 P.v0 (x t)) s n

/-- The second layer after `n` steps, fed by the first. -/
def second (P : Weights) (x : ℕ → Fin 512 → EReal) (s r : Row) (n : ℕ) : Row :=
  layer P.Wh1 (fun t => dense P.Wi1 P.v1 (first P x s (t + 1)).1) r n

theorem first_congr (P : Weights) (x y : ℕ → Fin 512 → EReal) (s : Row) (n : ℕ) (h : ∀ t < n, x t = y t) :
    first P x s n = first P y s n := layer_congr _ _ _ _ _ fun t ht => by rw [h t ht]

theorem second_congr (P : Weights) (x y : ℕ → Fin 512 → EReal) (s r : Row) (n : ℕ) (h : ∀ t < n, x t = y t) :
    second P x s r n = second P y s r n :=
  layer_congr _ _ _ _ _ fun t ht => by rw [first_congr P x y s (t + 1) fun u hu => h u (by omega)]

end Cert.Lstm

end
-- ==== Proof.KernelStep.lean ====
/- The recurrent passes of the kernel, one packed sequence at a time: every step of the state arrays is the layer's step on each
   of their rows, so the carried state after a point is the layer's state after the point's 64 steps, and what is stored at a
   step is the layer's new hidden row. -/
module

public import proofs.«01_k».proof.Proof.LstmStep
public import proofs.«01_k».proof.Proof.LayerSpec

@[expose] public section

set_option maxRecDepth 16384

noncomputable section

namespace Cert.KernelIdeal.Own

open Idealize.ShloMosaic Idealize.ShloMosaic.TcCoe Idealize.SL.Sem
open Cert.KernelIdeal Cert.KernelIdeal.Gen Cert.Lstm

/-- Row `b` of a pair of state arrays. -/
def rowOf (s : St Ideal) (b : Fin 8) : Row := (fun j => s.1 (ix2 b j), fun j => s.2 (ix2 b j))

/-- The weights of a pass by row and column. -/
def wRows (w : FVec Ideal S1024x256 .bf16) : Fin 1024 → Fin 256 → EReal := fun q k => w (ix2 q k)

theorem step_c (w : FVec Ideal S1024x256 .bf16) (a : FVec Ideal S1x8x1024 .f32) (h c : FVec Ideal S8x256 .f32) (b : Fin 8) (j : Fin 256) :
    k1_pay7 (F := Ideal) w a h c (ix2 b j) = cellC (gates (wRows w) (fun q => a (ix3 0 b q)) fun k => h (ix2 b k)) (c (ix2 b j)) j := by
  pointwise [k1_pay7, k1_pay4, k1_pay3]
  rfl

theorem step_h (w : FVec Ideal S1024x256 .bf16) (a : FVec Ideal S1x8x1024 .f32) (h c : FVec Ideal S8x256 .f32) (b : Fin 8) (j : Fin 256) :
    k1_pay6 (F := Ideal) w a h c (ix2 b j) = cellH (gates (wRows w) (fun q => a (ix3 0 b q)) fun k => h (ix2 b k)) (c (ix2 b j)) j := by
  pointwise [k1_pay6, k1_pay5, k1_pay4, k1_pay3]
  rfl

theorem stored_row (w : FVec Ideal S1024x256 .bf16) (a : FVec Ideal S1x8x1024 .f32) (h c : FVec Ideal S8x256 .f32) (b : Fin 8) (j : Fin 256) :
    k1_pay8 (F := Ideal) w a h c (ix3 0 b j) = k1_pay6 (F := Ideal) w a h c (ix2 b j) := by
  pointwise [k1_pay8, k1_pay6]

/-- The word the second pass compares with the lengths is the number of the step. -/
theorem step_word (i : Fin 8) (r : Fin 64) :
    Scalar.addi (Scalar.muli (BitVec.ofNat 32 i.val) 64#32) (Scf.iv 0#32 1#32 r.val) = BitVec.ofNat 32 (64 * i.val + r.val) := by
  revert i r; decide +kernel

theorem stored_row_masked (i : Fin 8) (r : Fin 64) (w : FVec Ideal S1024x256 .bf16) (a : FVec Ideal S1x8x1024 .f32)
    (h c : FVec Ideal S8x256 .f32) (l : Vec Ideal S8x1 .i32) (b : Fin 8) (j : Fin 256) :
    k3_pay9 (F := Ideal) (BitVec.ofNat 32 i.val) (k3_pay3 w) 0#32 1#32 (trip3 r.val) a h c l (ix3 0 b j)
      = k1_pay6 (F := Ideal) w a h c (ix2 b j) * mask (64 * i.val + r.val) (l (ix2 b 0)) := by
  have e : ((trip3 r.val : Fin k3_t1_loop.trips) : ℕ) = r.val := by
    show r.val % k3_t1_loop.trips = r.val
    rw [k3_trips]; exact Nat.mod_eq_of_lt r.isLt
  rw [← mask_signed, ← step_word]
  pointwise [k3_pay9, k1_pay6]
  rw [e]
  rfl

theorem stepSt_row (w : FVec Ideal S1024x256 .bf16) (a : FVec Ideal S1x8x1024 .f32) (s : St Ideal) (b : Fin 8) :
    rowOf (stepSt w a s) b = stepRow (wRows w) (fun q => a (ix3 0 b q)) (rowOf s b) :=
  Prod.ext (funext fun j => step_h w a s.1 s.2 b j) (funext fun j => step_c w a s.1 s.2 b j)

/-- Row `n` of a block read at an index. -/
theorem gateRow_at (A : FVec Ideal S64x8x1024 .f32) (n : Fin 64) (b : Fin 8) (q : Fin 1024) :
    gateRow (F := Ideal) A n.val (ix3 0 b q) = A (ix3 n b q) := by
  unfold gateRow VecWindow.window
  refine congrArg A (funext fun a => Fin.ext ?_)
  match a with
  | 0 => show n.val % 64 + 0 = n.val; omega
  | 1 => show 0 + 1 * b.val = b.val; omega
  | 2 => show 0 + 1 * q.val = q.val; omega

/-- The state after `n` of a block's steps. -/
theorem stAfter_row (w : FVec Ideal S1024x256 .bf16) (A : FVec Ideal S64x8x1024 .f32) (s : St Ideal) (b : Fin 8)
    (X : ℕ → Fin 1024 → EReal) (hA : ∀ (r : Fin 64) (q : Fin 1024), A (ix3 r b q) = X r.val q) (n : ℕ) (hn : n ≤ 64) :
    rowOf (stAfter w A s n) b = layer (wRows w) X (rowOf s b) n := by
  induction n with
  | zero => rfl
  | succ n ih =>
    rw [stAfter_succ, stepSt_row, layer_succ, ih (by omega)]
    refine congrArg (fun x => stepRow _ x _) (funext fun q => ?_)
    exact (gateRow_at A ⟨n, by omega⟩ b q).trans (hA ⟨n, by omega⟩ q)

/-- The state carried from point to point. -/
theorem carry_row (w : ℕ → FVec Ideal S1024x256 .bf16) (A : ℕ → FVec Ideal S64x8x1024 .f32) (C : ℕ → St Ideal)
    (hC : ∀ n, C (n + 1) = stAfter (w n) (A n) (C n) 64) (W : Fin 1024 → Fin 256 → EReal) (hw : ∀ n, wRows (w n) = W)
    (b : Fin 8) (X : ℕ → Fin 1024 → EReal)
    (hA : ∀ n < 8, ∀ (r : Fin 64) (q : Fin 1024), A n (ix3 r b q) = X (64 * n + r.val) q) (n : ℕ) (hn : n ≤ 8) :
    rowOf (C n) b = layer W X (rowOf (C 0) b) (64 * n) := by
  induction n with
  | zero => rfl
  | succ n ih =>
    rw [hC, stAfter_row (w n) (A n) (C n) b (fun t => X (64 * n + t)) (hA n (by omega)) 64 le_rfl, hw, ih (by omega),
      ← layer_add, Nat.mul_succ]

theorem inRow_at (r : Fin 64) (b : Fin 8) (j : Fin 256) : inRow (ix3 r b j) = ix3 0 b j := by
  funext a
  apply Fin.ext
  match a with
  | 0 => show r.val - r.val = 0; omega
  | 1 => rfl
  | 2 => rfl

/-- The first pass stores the layer's hidden rows. -/
theorem outBlk_at (w : FVec Ideal S1024x256 .bf16) (A : FVec Ideal S64x8x1024 .f32) (s : St Ideal) (r : Fin 64) (b : Fin 8) (j : Fin 256) :
    outBlk (F := Ideal) w A s (ix3 r b j) = (rowOf (stAfter w A s (r.val + 1)) b).1 j := by
  show k1_pay8 w (gateRow (F := Ideal) A r.val) _ _ (inRow (ix3 r b j)) = _
  rw [inRow_at, stored_row]
  rfl

/-- The second pass stores them times the mask. -/
theorem outBlkM_at (i : Fin 8) (w : FVec Ideal S1024x256 .bf16) (A : FVec Ideal S64x8x1024 .f32) (l : Vec Ideal S8x1 .i32)
    (s : St Ideal) (r : Fin 64) (b : Fin 8) (j : Fin 256) :
    outBlkM (F := Ideal) (BitVec.ofNat 32 i.val) w A l s (ix3 r b j)
      = (rowOf (stAfter w A s (r.val + 1)) b).1 j * mask (64 * i.val + r.val) (l (ix2 b 0)) := by
  show k3_pay9 (BitVec.ofNat 32 i.val) (k3_pay3 w) 0#32 1#32 (trip3 r.val) (gateRow (F := Ideal) A r.val) _ _ l (inRow (ix3 r b j)) = _
  rw [inRow_at, stored_row_masked]
  rfl

end Cert.KernelIdeal.Own

end
-- ==== Proof.PassValue1.lean ====
/- The first recurrent pass as a function of its arrays: the result at step `t` of sequence `b` is the layer's hidden row there. -/
module

public import proofs.«01_k».proof.Proof.LstmRegion1
public import proofs.«01_k».proof.Proof.KernelStep
public import Idealize.ShloMosaic.Lib.Pipeline.ValueKit

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Lstm

/-- The gate inputs of sequence `b`, step by step. -/
def inputs (A : FVec Ideal S512x8x1024 .f32) (b : Fin 8) : ℕ → Fin 1024 → EReal :=
  fun t q => A (ix3 ⟨t % 512, Nat.mod_lt _ (by decide)⟩ b q)

/-- Row `b` of two arrays. -/
def startRows (h0 c0 : FVec Ideal S8x256 .f32) (b : Fin 8) : Row := (fun j => h0 (ix2 b j), fun j => c0 (ix2 b j))

/-- The layer's hidden rows over all steps and sequences. -/
def passRow (w : FVec Ideal S1024x256 .bf16) (A : FVec Ideal S512x8x1024 .f32) (h0 c0 : FVec Ideal S8x256 .f32) (t : ℕ) (b : Fin 8) :
    Fin 256 → EReal := (layer (wRows w) (inputs A b) (startRows h0 c0 b) (t + 1)).1
def passOut (w : FVec Ideal S1024x256 .bf16) (A : FVec Ideal S512x8x1024 .f32) (h0 c0 : FVec Ideal S8x256 .f32) : FVec Ideal S512x8x256 .f32 :=
  fun i => passRow w A h0 c0 (i 0).val (i 1) (i 2)

variable (V : Dev nD → Valuation τ sig (Elt Ideal))

theorem idx1 : ∀ t : Fin cfg1.N, win1_0.index t = ![t.val, 0, 0] ∧ win1_1.index t = ![0, 0] ∧ win1_2.index t = ![0, 0]
    ∧ win1_3.index t = ![0, 0] ∧ win1_4.index t = ![0, 0] ∧ win1_5.index t = ![t.val, 0, 0] :=
  (by decide +kernel : ∀ t : Fin grid1.N, _)

theorem blk1_0_at (c : Dev nD) (n : ℕ) (hn : n < 8) (r : Fin 64) (b : Fin 8) (q : Fin 1024) :
    blk1 V c 0 (pt1 n) (ix3 r b q) = V c (Proc.devRef .tc main_v10) (ix3 ⟨64 * n + r.val, by omega⟩ b q) := by
  have e : (pt1 n).val = n := Nat.mod_eq_of_lt hn
  blk_ext [blk1, idx1 (pt1 n), e]
theorem blk1_1_eq (c : Dev nD) (t : Fin cfg1.N) : blk1 V c 1 t = V c (Proc.devRef .tc main_v15) := by
  blk_ext! [blk1, idx1 t]
theorem blk1_2_eq (c : Dev nD) (t : Fin cfg1.N) : blk1 V c 2 t = V c (Proc.devRef .tc main_v12) := by
  blk_ext! [blk1, idx1 t]
theorem blk1_3_eq (c : Dev nD) (t : Fin cfg1.N) : blk1 V c 3 t = V c (Proc.devRef .tc main_v14) := by
  blk_ext! [blk1, idx1 t]

theorem carry1_zero_row (c : Dev nD) (b : Fin 8) :
    rowOf (carry1 V c 0) b = startRows (V c (Proc.devRef .tc main_v12)) (V c (Proc.devRef .tc main_v14)) b := by
  show rowOf (st0 (blk1 V c 2 (pt1 0)) (blk1 V c 3 (pt1 0))) b = _
  rw [blk1_2_eq, blk1_3_eq]
  unfold rowOf st0 startRows
  refine Prod.ext (funext fun j => ?_) (funext fun j => ?_)
  · pointwise [k1_pay1]
  · pointwise [k1_pay2]

theorem pass1_point (c : Dev nD) (t : Fin cfg1.N) (r : Fin 64) (b : Fin 8) (j : Fin 256) :
    outBlk (F := Ideal) (blk1 V c 1 t) (blk1 V c 0 t) (carry1 V c t.val) (ix3 r b j)
      = passRow (V c (Proc.devRef .tc main_v15)) (V c (Proc.devRef .tc main_v10)) (V c (Proc.devRef .tc main_v12))
          (V c (Proc.devRef .tc main_v14)) (64 * t.val + r.val) b j := by
  have ht : t.val < 8 := lt_of_lt_of_eq t.isLt N_1
  have hA : ∀ n < 8, ∀ (r : Fin 64) (q : Fin 1024), blk1 V c 0 (pt1 n) (ix3 r b q)
      = inputs (V c (Proc.devRef .tc main_v10)) b (64 * n + r.val) q := fun n hn r q => by
    rw [blk1_0_at V c n hn]
    refine congrArg (fun x => V c (Proc.devRef .tc main_v10) (ix3 x b q)) (Fin.ext ?_)
    exact (Nat.mod_eq_of_lt (by omega)).symm
  rw [outBlk_at, stAfter_row _ _ _ b (fun u => inputs (V c (Proc.devRef .tc main_v10)) b (64 * t.val + u)) ?_ _ (by omega),
    carry_row (fun n => blk1 V c 1 (pt1 n)) (fun n => blk1 V c 0 (pt1 n)) (carry1 V c) (fun n => rfl)
      (wRows (V c (Proc.devRef .tc main_v15))) (fun n => by rw [blk1_1_eq]) b _ hA t.val (by omega), carry1_zero_row, blk1_1_eq,
    ← layer_add, ← Nat.add_assoc]
  · rfl
  · intro r q
    have := hA t.val ht r q
    rwa [pt1_val] at this

/-- The first pass's result. -/
theorem final1 (c : Dev nD) : (dat1 V c).arrAt 5 cfg1.N
    = passOut (V c (Proc.devRef .tc main_v15)) (V c (Proc.devRef .tc main_v10)) (V c (Proc.devRef .tc main_v12)) (V c (Proc.devRef .tc main_v14)) := by
  refine (dat1 V c).arrAt_eq_of_covers 5 _ (by decide +kernel) fun t _ y => ?_
  blk_simp
  rw [after1_5]
  idx_vars y
  have ht : t.val < 8 := lt_of_lt_of_eq t.isLt N_1
  refine (pass1_point V c t y0 y1 y2).trans ?_
  show passOut _ _ _ _ (ix3 ⟨64 * t.val + y0.val, by omega⟩ y1 y2) = _
  blk_ext [idx1 t]

end Cert.KernelIdeal.Own

end
-- ==== Proof.PassValue3.lean ====
/- The second recurrent pass as a function of its arrays: the result at step `t` of sequence `b` is the hidden row of the layer there, times the mask. -/
module

public import proofs.«01_k».proof.Proof.LstmRegion3
public import proofs.«01_k».proof.Proof.PassValue1
public import Idealize.ShloMosaic.Lib.Pipeline.ValueKit

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Lstm

/-- The layer's hidden rows over all steps and sequences, times the mask of the lengths `l`. -/
def passOutM (w : FVec Ideal S1024x256 .bf16) (A : FVec Ideal S512x8x1024 .f32) (h0 c0 : FVec Ideal S8x256 .f32) (l : IVec S8x1 32) :
    FVec Ideal S512x8x256 .f32 :=
  fun i => passRow w A h0 c0 (i 0).val (i 1) (i 2) * mask (i 0).val (l (ix2 (i 1) 0))

variable (V : Dev nD → Valuation τ sig (Elt Ideal))

theorem idx3 : ∀ t : Fin cfg3.N, win3_0.index t = ![t.val, 0, 0] ∧ win3_1.index t = ![0, 0] ∧ win3_2.index t = ![0, 0]
    ∧ win3_3.index t = ![0, 0] ∧ win3_4.index t = ![0, 0] ∧ win3_5.index t = ![t.val, 0, 0] ∧ (grid3.coords t 0).val = t.val :=
  (by decide +kernel : ∀ t : Fin grid3.N, _)

theorem blk3_0_at (c : Dev nD) (n : ℕ) (hn : n < 8) (r : Fin 64) (b : Fin 8) (q : Fin 1024) :
    blk3 V c 0 (pt3 n) (ix3 r b q) = V c (Proc.devRef .tc main_v17) (ix3 ⟨64 * n + r.val, by omega⟩ b q) := by
  have e : (pt3 n).val = n := Nat.mod_eq_of_lt hn
  blk_ext [blk3, idx3 (pt3 n), e]
theorem blk3_1_eq (c : Dev nD) (t : Fin cfg3.N) : blk3 V c 1 t = V c (Proc.devRef .tc main_v22) := by
  blk_ext! [blk3, idx3 t]
theorem blk3_2_eq (c : Dev nD) (t : Fin cfg3.N) : blk3 V c 2 t = V c (Proc.devRef .tc main_v19) := by
  blk_ext! [blk3, idx3 t]
theorem blk3_3_eq (c : Dev nD) (t : Fin cfg3.N) : blk3 V c 3 t = V c (Proc.devRef .tc main_v21) := by
  blk_ext! [blk3, idx3 t]

theorem blk3_4_eq (c : Dev nD) (t : Fin cfg3.N) : blk3 V c 4 t = V c (Proc.devRef .tc main_v3) := by
  blk_ext! [blk3, idx3 t]

theorem carry3_zero_row (c : Dev nD) (b : Fin 8) :
    rowOf (carry3 V c 0) b = startRows (V c (Proc.devRef .tc main_v19)) (V c (Proc.devRef .tc main_v21)) b := by
  show rowOf (st0 (blk3 V c 2 (pt3 0)) (blk3 V c 3 (pt3 0))) b = _
  rw [blk3_2_eq, blk3_3_eq]
  unfold rowOf st0 startRows
  refine Prod.ext (funext fun j => ?_) (funext fun j => ?_)
  · pointwise [k1_pay1]
  · pointwise [k1_pay2]

theorem pass3_point (c : Dev nD) (t : Fin cfg3.N) (r : Fin 64) (b : Fin 8) (j : Fin 256) :
    outBlkM (F := Ideal) (BitVec.ofNat 32 (grid3.coords t 0).val) (blk3 V c 1 t) (blk3 V c 0 t) (blk3 V c 4 t) (carry3 V c t.val) (ix3 r b j)
      = passRow (V c (Proc.devRef .tc main_v22)) (V c (Proc.devRef .tc main_v17)) (V c (Proc.devRef .tc main_v19))
          (V c (Proc.devRef .tc main_v21)) (64 * t.val + r.val) b j
        * mask (64 * t.val + r.val) ((V c (Proc.devRef .tc main_v3) : IVec S8x1 32) (ix2 b 0)) := by
  have ht : t.val < 8 := lt_of_lt_of_eq t.isLt N_3
  have hA : ∀ n < 8, ∀ (r : Fin 64) (q : Fin 1024), blk3 V c 0 (pt3 n) (ix3 r b q)
      = inputs (V c (Proc.devRef .tc main_v17)) b (64 * n + r.val) q := fun n hn r q => by
    rw [blk3_0_at V c n hn]
    refine congrArg (fun x => V c (Proc.devRef .tc main_v17) (ix3 x b q)) (Fin.ext ?_)
    exact (Nat.mod_eq_of_lt (by omega)).symm
  rw [show (grid3.coords t 0).val = (⟨t.val, ht⟩ : Fin 8).val from (idx3 t).2.2.2.2.2.2, outBlkM_at, blk3_4_eq, stAfter_row _ _ _ b (fun u => inputs (V c (Proc.devRef .tc main_v17)) b (64 * t.val + u)) ?_ _ (by omega),
    carry_row (fun n => blk3 V c 1 (pt3 n)) (fun n => blk3 V c 0 (pt3 n)) (carry3 V c) (fun n => rfl)
      (wRows (V c (Proc.devRef .tc main_v22))) (fun n => by rw [blk3_1_eq]) b _ hA t.val (by omega), carry3_zero_row, blk3_1_eq,
    ← layer_add, ← Nat.add_assoc]
  · rfl
  · intro r q
    have := hA t.val ht r q
    rwa [pt3_val] at this

/-- The first pass's result. -/
theorem final3 (c : Dev nD) : (dat3 V c).arrAt 5 cfg3.N
    = passOutM (V c (Proc.devRef .tc main_v22)) (V c (Proc.devRef .tc main_v17)) (V c (Proc.devRef .tc main_v19)) (V c (Proc.devRef .tc main_v21))
        (V c (Proc.devRef .tc main_v3)) := by
  refine (dat3 V c).arrAt_eq_of_covers 5 _ (by decide +kernel) fun t _ y => ?_
  blk_simp
  rw [after3_5]
  idx_vars y
  have ht : t.val < 8 := lt_of_lt_of_eq t.isLt N_3
  refine (pass3_point V c t y0 y1 y2).trans ?_
  show passOutM _ _ _ _ _ (ix3 ⟨64 * t.val + y0.val, by omega⟩ y1 y2) = _
  blk_ext [idx3 t]

end Cert.KernelIdeal.Own

end
-- ==== Proof.DenseValue.lean ====
/- The second layer's input product as a function of its arrays. -/
module

public import proofs.«01_k».proof.Proof.MatmulRegion
public import proofs.«01_k».proof.Proof.LayerSpec
public import Idealize.ShloMosaic.Lib.Pipeline.ValueKit

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Lstm

/-- Every row of `x` through the dense product. -/
def denseOut (x : FVec Ideal S512x8x256 .f32) (w : FVec Ideal S1024x256 .f32) (v : FVec Ideal S1x1024 .f32) : FVec Ideal S512x8x1024 .f32 :=
  fun i => dense (fun q k => w (ix2 q k)) (fun q => v (ix2 0 q)) (fun k => x (ix3 (i 0) (i 1) k)) (i 2)

theorem k2_pay1_at (x : FVec Ideal S64x8x256 .f32) (w : FVec Ideal S1024x256 .f32) (v : FVec Ideal S1x1024 .f32) (r : Fin 64) (b : Fin 8) (q : Fin 1024) :
    k2_pay1 (F := Ideal) x w v (ix3 r b q) = dense (fun q k => w (ix2 q k)) (fun q => v (ix2 0 q)) (fun k => x (ix3 r b k)) q := by
  pointwise [k2_pay1]
  rfl

variable (V : Dev nD → Valuation τ sig (Elt Ideal))

theorem idx2 : ∀ t : Fin cfg2.N, win2_0.index t = ![t.val, 0, 0] ∧ win2_1.index t = ![0, 0] ∧ win2_2.index t = ![0, 0]
    ∧ win2_3.index t = ![t.val, 0, 0] :=
  (by decide +kernel : ∀ t : Fin grid2.N, _)

theorem blk2_0_at (c : Dev nD) (t : Fin cfg2.N) (ht : t.val < 8) (r : Fin 64) (b : Fin 8) (q : Fin 256) :
    blk2 V c 0 t (ix3 r b q) = V c (Proc.devRef .tc main_v16) (ix3 ⟨64 * t.val + r.val, by omega⟩ b q) := by
  blk_ext [blk2, idx2 t]
theorem blk2_1_eq (c : Dev nD) (t : Fin cfg2.N) : blk2 V c 1 t = V c (Proc.devRef .tc main_arg8) := by
  blk_ext! [blk2, idx2 t]
theorem blk2_2_eq (c : Dev nD) (t : Fin cfg2.N) : blk2 V c 2 t = V c (Proc.devRef .tc main_v7) := by
  blk_ext! [blk2, idx2 t]

/-- The product's result. -/
theorem final2 (c : Dev nD) : (dat2 V c).arrAt 3 cfg2.N
    = denseOut (V c (Proc.devRef .tc main_v16)) (V c (Proc.devRef .tc main_arg8)) (V c (Proc.devRef .tc main_v7)) := by
  refine (dat2 V c).arrAt_eq_of_covers 3 _ (by decide +kernel) fun t _ y => ?_
  blk_simp
  rw [after2_3]
  idx_vars y
  have ht : t.val < 8 := lt_of_lt_of_eq t.isLt N_2
  rw [blk2_1_eq, blk2_2_eq]
  refine (k2_pay1_at _ _ _ y0 y1 y2).trans ?_
  simp only [blk2_0_at V c t ht]
  show denseOut _ _ _ (ix3 ⟨64 * t.val + y0.val, by omega⟩ y1 y2) = _
  blk_ext [idx2 t]

end Cert.KernelIdeal.Own

end
-- ==== Proof.PadValue.lean ====
/- The gather and the first layer's input product as a function of their arrays: row `t` of sequence `b` is the packed row the
   starts point at, through the dense product. -/
module

public import proofs.«01_k».proof.Proof.PadRegion
public import proofs.«01_k».proof.Proof.LayerSpec
public import Idealize.ShloMosaic.Lib.Pipeline.ValueKit

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Lstm

/-- The packed row that step `t` of sequence `b` reads, given where block `t / 64` of the sequence starts. -/
def rowAt (X : FVec Ideal S2816x512 .f32) (start : ℕ → Fin 8 → ℕ) (t : ℕ) (b : Fin 8) : Fin 512 → EReal :=
  fun k => X (ix2 ⟨(start (t / 64) b + t % 64) % 2816, Nat.mod_lt _ (by decide)⟩ k)

/-- Those rows through the dense product. -/
def padOut (X : FVec Ideal S2816x512 .f32) (start : ℕ → Fin 8 → ℕ) (w : FVec Ideal S1024x512 .f32) (v : FVec Ideal S1x1024 .f32) :
    FVec Ideal S512x8x1024 .f32 :=
  fun i => dense (fun q k => w (ix2 q k)) (fun q => v (ix2 0 q)) (rowAt X start (i 0).val (i 1)) (i 2)

theorem k0_pay3_at (x : FVec Ideal S64x8x512 .f32) (w : FVec Ideal S1024x512 .f32) (v : FVec Ideal S1x1024 .f32) (r : Fin 64) (b : Fin 8) (q : Fin 1024) :
    k0_pay3 (F := Ideal) x w v (ix3 r b q) = dense (fun q k => w (ix2 q k)) (fun q => v (ix2 0 q)) (fun k => x (ix3 r b k)) q := by
  pointwise [k0_pay3]
  rfl

/-- Where block `n` of sequence `b` starts. -/
def starts (T : S9.Idx → BitVec 32) (n : ℕ) (b : Fin 8) : ℕ :=
  startRow (grid0.coords ⟨n % grid0.N, Nat.mod_lt _ (by decide +kernel)⟩) (T (ix1 8)) (T (ix1 b.castSucc))

theorem starts_at (T : S9.Idx → BitVec 32) (t : Fin grid0.N) (b : Fin 8) :
    starts T t.val b = startRow (grid0.coords t) (T (ix1 8)) (T (ix1 b.castSucc)) :=
  congrArg (fun u => startRow (grid0.coords u) (T (ix1 8)) (T (ix1 b.castSucc))) (Fin.ext (Nat.mod_eq_of_lt t.isLt))

/-- The gathered block's rows are the packed rows read. -/
theorem gath_row (t : Fin grid0.N) (T : S9.Idx → BitVec 32) (X : FVec Ideal S2816x512 .f32) (r : Fin 64) (b : Fin 8) (k : Fin 512) :
    gath (F := Ideal) (grid0.coords t) T X (ix3 r b k) = rowAt X (starts T) (64 * t.val + r.val) b k := by
  have e1 : (64 * t.val + r.val) / 64 = t.val := by omega
  have e2 : (64 * t.val + r.val) % 64 = r.val := by omega
  refine congrArg (fun x => X (ix2 x k)) (Fin.ext ?_)
  show (startRow (grid0.coords t) (T (ix1 8)) (T (ix1 b.castSucc)) + r.val) % 2816
    = (starts T ((64 * t.val + r.val) / 64) b + (64 * t.val + r.val) % 64) % 2816
  rw [e1, e2, starts_at]

/-- Some table contents; the windows are the same at all of them. -/
def someTable : (pcfg0 (F := Ideal)).Adm := ⟨fun | 0 => fun _ => (0#32 : BitVec 32) | ⟨_ + 1, h⟩ => absurd h (Nat.not_lt.2 (Nat.le_add_left _ _)), trivial⟩

theorem win0_same (a : (pcfg0 (F := Ideal)).Adm) (w : Fin 4) : (cfg0 a).win w = (cfg0 someTable).win w :=
  match w with
  | 0 => rfl
  | 1 => rfl
  | 2 => rfl
  | 3 => rfl

theorem covers0 (a : (pcfg0 (F := Ideal)).Adm) : ((cfg0 a).win 3).Covers := by
  rw [win0_same]
  exact (by decide +kernel : ((cfg0 someTable).win 3).Covers)

theorem idx0 (a : (pcfg0 (F := Ideal)).Adm) : ∀ t : Fin grid0.N, ((cfg0 a).win 0).index t = ![0, 0] ∧ ((cfg0 a).win 1).index t = ![0, 0]
    ∧ ((cfg0 a).win 2).index t = ![0, 0] ∧ ((cfg0 a).win 3).index t = ![t.val, 0, 0] :=
  (by decide +kernel : ∀ t : Fin grid0.N, cc0_transform_0 (grid0.coords t) = ![0, 0] ∧ cc0_transform_1 (grid0.coords t) = ![0, 0]
    ∧ cc0_transform_2 (grid0.coords t) = ![0, 0] ∧ cc0_transform_3 (grid0.coords t) = ![t.val, 0, 0])

variable (a : (pcfg0 (F := Ideal)).Adm) (V : Dev nD → Valuation τ sig (Elt Ideal))

theorem blk0_0_eq (c : Dev nD) (t : Fin (cfg0 a).N) : blk0 a V c 0 t = V c (Proc.devRef .tc main_v9) := by
  blk_ext! [blk0, idx0 a t]
theorem blk0_1_eq (c : Dev nD) (t : Fin (cfg0 a).N) : blk0 a V c 1 t = V c (Proc.devRef .tc main_arg4) := by
  blk_ext! [blk0, idx0 a t]
theorem blk0_2_eq (c : Dev nD) (t : Fin (cfg0 a).N) : blk0 a V c 2 t = V c (Proc.devRef .tc main_v5) := by
  blk_ext! [blk0, idx0 a t]

theorem final0 (c : Dev nD) : (dat0 a V c).arrAt 3 (cfg0 a).N
    = padOut (V c (Proc.devRef .tc main_v9)) (starts (tbl a)) (V c (Proc.devRef .tc main_arg4)) (V c (Proc.devRef .tc main_v5)) := by
  refine (dat0 a V c).arrAt_eq_of_covers 3 _ (covers0 a) fun t _ y => ?_
  blk_simp
  rw [after0_3]
  obtain ⟨y0, y1, y2, rfl⟩ : ∃ (y0 : Fin 64) (y1 : Fin 8) (y2 : Fin 1024), y = ix3 y0 y1 y2 := ⟨_, _, _, eq_ix3 (n0 := 64) (n1 := 8) (n2 := 1024) y⟩
  have ht : t.val < 8 := lt_of_lt_of_eq t.isLt N_0
  rw [blk0_0_eq, blk0_1_eq, blk0_2_eq]
  refine (k0_pay3_at _ _ _ y0 y1 y2).trans ?_
  refine Eq.trans (b := padOut (V c (Proc.devRef .tc main_v9)) (starts (tbl a)) (V c (Proc.devRef .tc main_arg4))
    (V c (Proc.devRef .tc main_v5)) (ix3 ⟨64 * t.val + y0.val, by omega⟩ y1 y2)) ?_ ?_
  · show _ = dense _ _ (rowAt _ _ (64 * t.val + y0.val) y1) y2
    refine congrArg (fun x => dense _ _ x y2) (funext fun k => ?_)
    exact gath_row t (tbl a) _ y0 y1 k
  · blk_ext [idx0 a t]

end Cert.KernelIdeal.Own

end
-- ==== Proof.Packed.lean ====
/- The result both programs are shown to hold, as a function of the twelve arguments: for every sequence the two layers over
   its own packed rows, masked past its end. And the arithmetic of the sequence starts. -/
module

public import proofs.«01_k».proof.Proof.LayerSpec

@[expose] public section

noncomputable section

namespace Cert.Lstm

open Idealize.ShloMosaic

/-- The weights and biases read off the eight weight arguments; each layer's two biases added. -/
def weights (wi0 : FVec Ideal ⟨2, ![1024, 512]⟩ .f32) (wh0 : FVec Ideal ⟨2, ![1024, 256]⟩ .f32) (bi0 bh0 : FVec Ideal ⟨1, ![1024]⟩ .f32)
    (wi1 wh1 : FVec Ideal ⟨2, ![1024, 256]⟩ .f32) (bi1 bh1 : FVec Ideal ⟨1, ![1024]⟩ .f32) : Weights where
  Wi0 q k := wi0 (ix2 q k)
  Wh0 q k := wh0 (ix2 q k)
  v0 q := bi0 (ix1 q) + bh0 (ix1 q)
  Wi1 q k := wi1 (ix2 q k)
  Wh1 q k := wh1 (ix2 q k)
  v1 q := bi1 (ix1 q) + bh1 (ix1 q)

/-- Layer `l`'s starting rows for sequence `b`. -/
def startOf (h c : FVec Ideal ⟨3, ![2, 8, 256]⟩ .f32) (l : Fin 2) (b : Fin 8) : Row := (fun j => h (ix3 l b j), fun j => c (ix3 l b j))

/-- Row `t` of sequence `b` among the packed rows; zero past their end. -/
def packedRow (x : FVec Ideal ⟨2, ![2752, 512]⟩ .f32) (T : IVec ⟨1, ![9]⟩ 32) (b : Fin 8) (t : ℕ) : Fin 512 → EReal :=
  fun k => if h : (T (ix1 b.castSucc)).toNat + t < 2752 then x (ix2 ⟨_, h⟩ k) else 0

/-- The length of sequence `b`. -/
def lenOf (T : IVec ⟨1, ![9]⟩ 32) (b : Fin 8) : BitVec 32 := T (ix1 b.succ) - T (ix1 b.castSucc)

/-- The masked hidden rows of the second layer. -/
def packed (x : FVec Ideal ⟨2, ![2752, 512]⟩ .f32) (T : IVec ⟨1, ![9]⟩ 32) (h c : FVec Ideal ⟨3, ![2, 8, 256]⟩ .f32) (P : Weights) :
    FVec Ideal ⟨3, ![512, 8, 256]⟩ .f32 :=
  fun i => (second P (packedRow x T (i 1)) (startOf h c 0 (i 1)) (startOf h c 1 (i 1)) ((i 0).val + 1)).1 (i 2) * mask (i 0).val (lenOf T (i 1))

theorem mask_zero_or_one (t : ℕ) (len : BitVec 32) : mask t len = 0 ∨ mask t len = 1 := by
  unfold mask; split
  · exact Or.inr rfl
  · exact Or.inl rfl

/-- A step under the mask is a row of the sequence itself. -/
theorem mask_lt (u v : BitVec 32) (hu : u.toNat ≤ 2752) (hv : v.toNat ≤ 2752) (t : ℕ) (ht : t < 512) (h : mask t (v - u) = 1) :
    u.toNat + t < v.toNat := by
  have hs : (BitVec.ofNat 32 t).slt (v - u) = true := by
    by_contra hc
    unfold mask at h
    rw [if_neg hc] at h
    exact zero_ne_one h
  rw [BitVec.slt_iff_toInt_lt, BitVec.toInt_eq_toNat_cond, BitVec.toInt_eq_toNat_cond, BitVec.toNat_sub, BitVec.toNat_ofNat] at hs
  have e : t % 2 ^ 32 = t := Nat.mod_eq_of_lt (by omega)
  rw [e] at hs
  by_cases hle : u.toNat ≤ v.toNat
  · have e2 : (2 ^ 32 - u.toNat + v.toNat) % 2 ^ 32 = v.toNat - u.toNat := by omega
    rw [e2] at hs
    split at hs <;> split at hs <;> omega
  · have e2 : (2 ^ 32 - u.toNat + v.toNat) % 2 ^ 32 = 2 ^ 32 - u.toNat + v.toNat := Nat.mod_eq_of_lt (by omega)
    rw [e2] at hs
    split at hs <;> split at hs <;> omega

/-- The steps under the mask come first. -/
theorem mask_earlier (t u : ℕ) (len : BitVec 32) (htu : t ≤ u) (hu : u < 512) (h : mask u len = 1) : mask t len = 1 := by
  have hs : (BitVec.ofNat 32 u).slt len = true := by
    by_contra hc
    unfold mask at h
    rw [if_neg hc] at h
    exact zero_ne_one h
  have hs' : (BitVec.ofNat 32 t).slt len = true := by
    rw [BitVec.slt_iff_toInt_lt, BitVec.toInt_eq_toNat_cond, BitVec.toNat_ofNat] at hs ⊢
    rw [Nat.mod_eq_of_lt (by omega : u < 2 ^ 32), if_pos (by omega)] at hs
    rw [Nat.mod_eq_of_lt (by omega : t < 2 ^ 32), if_pos (by omega)]
    omega
  exact if_pos hs'

end Cert.Lstm

end
-- ==== Proof.KernelReads.lean ====
/- What the four regions find in the buffers they read: the host lines before them, computed. -/
module

public import proofs.«01_k».proof.Proof.Chain
public import proofs.«01_k».proof.Proof.PassValue3
public import proofs.«01_k».proof.Proof.PassValue1
public import proofs.«01_k».proof.Proof.DenseValue
public import proofs.«01_k».proof.Proof.PadValue
public import proofs.«01_k».proof.Proof.Packed

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Lstm

variable (V : Valuation τ sig (Elt Ideal))

theorem after0_v3 (b : Fin 8) : (StableHlo.after hostOps0 V (Proc.devRef .tc main_v3) : IVec S8x1 32) (ix2 b 0)
    = lenOf (V (Proc.devRef .tc main_arg1)) b := by
  entry_read
  pointwise
  show IntOp.subi _ _ = _
  have e : (⟨1 + b.val, by omega⟩ : Fin 9) = b.succ := Fin.ext (Nat.add_comm 1 b.val)
  rw [e]
  rfl

theorem after0_v5 (q : Fin 1024) : (StableHlo.after hostOps0 V (Proc.devRef .tc main_v5) : FVec Ideal S1x1024 .f32) (ix2 0 q)
    = @HAdd.hAdd EReal EReal EReal _ ((V (Proc.devRef .tc main_arg6) : FVec Ideal S1024 .f32) (ix1 q)) ((V (Proc.devRef .tc main_arg7) : FVec Ideal S1024 .f32) (ix1 q)) := by
  entry_read
  pointwise

theorem after0_v7 (q : Fin 1024) : (StableHlo.after hostOps0 V (Proc.devRef .tc main_v7) : FVec Ideal S1x1024 .f32) (ix2 0 q)
    = @HAdd.hAdd EReal EReal EReal _ ((V (Proc.devRef .tc main_arg10) : FVec Ideal S1024 .f32) (ix1 q)) ((V (Proc.devRef .tc main_arg11) : FVec Ideal S1024 .f32) (ix1 q)) := by
  entry_read
  pointwise

theorem after0_v9 (r : Fin 2816) (h : r.val < 2752) (k : Fin 512) : (StableHlo.after hostOps0 V (Proc.devRef .tc main_v9) : FVec Ideal S2816x512 .f32) (ix2 r k)
    = (V (Proc.devRef .tc main_arg0) : FVec Ideal S2752x512 .f32) (ix2 ⟨r.val, h⟩ k) := by
  entry_read
  refine concatenate_pair_apply_left (α := EReal) (t := S2816x512) (s₁ := S2752x512) (s₂ := S64x512) (0 : Fin 2) _ _ _ (ix2 r k) rfl (ix2 ⟨r.val, h⟩ k) fun x => ?_
  match x with
  | 0 => rfl
  | 1 => rfl

theorem after1_v12 (b : Fin 8) (j : Fin 256) : (StableHlo.after hostOps1 V (Proc.devRef .tc main_v12) : FVec Ideal S8x256 .f32) (ix2 b j)
    = (V (Proc.devRef .tc main_arg2) : FVec Ideal S2x8x256 .f32) (ix3 0 b j) := by
  entry_read
  pointwise

theorem after1_v14 (b : Fin 8) (j : Fin 256) : (StableHlo.after hostOps1 V (Proc.devRef .tc main_v14) : FVec Ideal S8x256 .f32) (ix2 b j)
    = (V (Proc.devRef .tc main_arg3) : FVec Ideal S2x8x256 .f32) (ix3 0 b j) := by
  entry_read
  pointwise

theorem after1_v15 (q : Fin 1024) (k : Fin 256) : (StableHlo.after hostOps1 V (Proc.devRef .tc main_v15) : FVec Ideal S1024x256 .bf16) (ix2 q k)
    = (V (Proc.devRef .tc main_arg5) : FVec Ideal S1024x256 .f32) (ix2 q k) := by
  entry_read
  pointwise

theorem after3_v19 (b : Fin 8) (j : Fin 256) : (StableHlo.after hostOps3 V (Proc.devRef .tc main_v19) : FVec Ideal S8x256 .f32) (ix2 b j)
    = (V (Proc.devRef .tc main_arg2) : FVec Ideal S2x8x256 .f32) (ix3 1 b j) := by
  entry_read
  pointwise

theorem after3_v21 (b : Fin 8) (j : Fin 256) : (StableHlo.after hostOps3 V (Proc.devRef .tc main_v21) : FVec Ideal S8x256 .f32) (ix2 b j)
    = (V (Proc.devRef .tc main_arg3) : FVec Ideal S2x8x256 .f32) (ix3 1 b j) := by
  entry_read
  pointwise

theorem after3_v22 (q : Fin 1024) (k : Fin 256) : (StableHlo.after hostOps3 V (Proc.devRef .tc main_v22) : FVec Ideal S1024x256 .bf16) (ix2 q k)
    = (V (Proc.devRef .tc main_arg9) : FVec Ideal S1024x256 .f32) (ix2 q k) := by
  entry_read
  pointwise

end Cert.KernelIdeal.Own

end
-- ==== Proof.KernelValue.lean ====
/- The kernel's result as a function of the arguments: the four regions' values put together. -/
module

public import proofs.«01_k».proof.Proof.KernelReads
public import proofs.«01_k».proof.Proof.Starts

@[expose] public section

set_option maxRecDepth 16384

noncomputable section

namespace Cert.KernelIdeal.Own

open Idealize.ShloMosaic Idealize.ShloMosaic.TcCoe Idealize.SL.Sem
open Idealize.ShloMosaic.Pipeline (Dat)
open Cert.KernelIdeal Cert.KernelIdeal.Gen Cert.Lstm

/-- The four values composed: two layers, the first fed by the gathered rows. -/
theorem passes_eq (P : Weights) (X : FVec Ideal S2816x512 .f32) (st : ℕ → Fin 8 → ℕ) (w0 : FVec Ideal S1024x512 .f32) (v0 v1 : FVec Ideal S1x1024 .f32)
    (u0 u1 : FVec Ideal S1024x256 .bf16) (w1 : FVec Ideal S1024x256 .f32) (h0 c0 h1 c1 : FVec Ideal S8x256 .f32) (l : IVec S8x1 32)
    (hw0 : ∀ q k, w0 (ix2 q k) = P.Wi0 q k) (hu0 : ∀ q k, u0 (ix2 q k) = P.Wh0 q k) (hv0 : ∀ q, v0 (ix2 0 q) = P.v0 q)
    (hw1 : ∀ q k, w1 (ix2 q k) = P.Wi1 q k) (hu1 : ∀ q k, u1 (ix2 q k) = P.Wh1 q k) (hv1 : ∀ q, v1 (ix2 0 q) = P.v1 q)
    (t : Fin 512) (b : Fin 8) (j : Fin 256) :
    passOutM u1 (denseOut (passOut u0 (padOut X st w0 v0) h0 c0) w1 v1) h1 c1 l (ix3 t b j)
      = (second P (fun n => rowAt X st n b) (startRows h0 c0 b) (startRows h1 c1 b) (t.val + 1)).1 j * mask t.val (l (ix2 b 0)) := by
  have eu0 : wRows u0 = P.Wh0 := funext fun q => funext fun k => hu0 q k
  have eu1 : wRows u1 = P.Wh1 := funext fun q => funext fun k => hu1 q k
  have e0 : ∀ n : ℕ, n < 512 → inputs (padOut X st w0 v0) b n = dense P.Wi0 P.v0 (rowAt X st n b) := fun n hn => by
    show dense (fun q k => w0 (ix2 q k)) (fun q => v0 (ix2 0 q)) (rowAt X st (n % 512) b) = _
    rw [Nat.mod_eq_of_lt hn, show (fun q k => w0 (ix2 q k)) = P.Wi0 from funext fun q => funext fun k => hw0 q k,
      show (fun q => v0 (ix2 0 q)) = P.v0 from funext hv0]
  have e1 : ∀ n : ℕ, n < 512 → inputs (denseOut (passOut u0 (padOut X st w0 v0) h0 c0) w1 v1) b n
      = dense P.Wi1 P.v1 (first P (fun n => rowAt X st n b) (startRows h0 c0 b) (n + 1)).1 := fun n hn => by
    show dense (fun q k => w1 (ix2 q k)) (fun q => v1 (ix2 0 q)) (passRow u0 (padOut X st w0 v0) h0 c0 (n % 512) b) = _
    rw [Nat.mod_eq_of_lt hn, show (fun q k => w1 (ix2 q k)) = P.Wi1 from funext fun q => funext fun k => hw1 q k,
      show (fun q => v1 (ix2 0 q)) = P.v1 from funext hv1]
    refine congrArg (fun r : Row => dense P.Wi1 P.v1 r.1) ?_
    rw [eu0]
    exact layer_congr _ _ _ _ _ fun u hu => e0 u (by omega)
  refine congrArg (fun r : Row => r.1 j * mask t.val (l (ix2 b 0))) ?_
  rw [eu1]
  exact layer_congr _ _ _ _ _ fun u hu => e1 u (lt_of_lt_of_le hu (Nat.succ_le_of_lt t.isLt))

variable (m : (ℓ : Loc nD τ sig) → Buf (Elt Ideal) ℓ) (c : Dev nD)

/-- An argument's contents at launch. -/
abbrev arg (r : Ref sig .tc) : Buf (Elt Ideal) ((c : Thread nD τ).loc r) := m ((c : Thread nD τ).loc r)

theorem X2_of (r : Ref sig .tc) (h : r ∉ ([main_v10] : List (Ref sig .tc))) : X2 m c r = V1 m c r := by
  rw [← V2_eq]; exact V2_of m (outs m) c r h
theorem X3_of (r : Ref sig .tc) (h : r ∉ hostOps1_W) : X3 m c r = X2 m c r := by
  rw [← V3_eq, ← V2_eq]; exact V3_of m (outs m) c r h
theorem X4_of (r : Ref sig .tc) (h : r ∉ ([main_v16] : List (Ref sig .tc))) : X4 m c r = X3 m c r := by
  rw [← V4_eq, ← V3_eq]; exact V4_of m (outs m) c r h
theorem X5_of (r : Ref sig .tc) (h : r ∉ ([main_v17] : List (Ref sig .tc))) : X5 m c r = X4 m c r := by
  rw [← V5_eq, ← V4_eq]; exact V5_of m (outs m) c r h
theorem X6_of (r : Ref sig .tc) (h : r ∉ hostOps3_W) : X6 m c r = X5 m c r := by
  rw [← V6_eq, ← V5_eq]; exact V6_of m (outs m) c r h

theorem X2_v10 : X2 m c (Proc.devRef .tc main_v10)
    = padOut (V1 m c (Proc.devRef .tc main_v9)) (starts (tbl (adm0 m))) (V1 m c (Proc.devRef .tc main_arg4)) (V1 m c (Proc.devRef .tc main_v5)) :=
  (Pipeline.afterRegion_arr (dat0 (adm0 m) (V1 m) c) (V1 m c) winFacts0.arr_inj 3).trans (final0 (adm0 m) (V1 m) c)

theorem X4_v16 : X4 m c (Proc.devRef .tc main_v16)
    = passOut (X3 m c (Proc.devRef .tc main_v15)) (X3 m c (Proc.devRef .tc main_v10)) (X3 m c (Proc.devRef .tc main_v12)) (X3 m c (Proc.devRef .tc main_v14)) :=
  (Pipeline.afterRegion_arr (dat1 (X3 m) c) (X3 m c) winFacts1.arr_inj 5).trans (final1 (X3 m) c)

theorem X5_v17 : X5 m c (Proc.devRef .tc main_v17)
    = denseOut (X4 m c (Proc.devRef .tc main_v16)) (X4 m c (Proc.devRef .tc main_arg8)) (X4 m c (Proc.devRef .tc main_v7)) :=
  (Pipeline.afterRegion_arr (dat2 (X4 m) c) (X4 m c) winFacts2.arr_inj 3).trans (final2 (X4 m) c)

theorem X7_v23 : X7 m c (Proc.devRef .tc main_v23)
    = passOutM (X6 m c (Proc.devRef .tc main_v22)) (X6 m c (Proc.devRef .tc main_v17)) (X6 m c (Proc.devRef .tc main_v19)) (X6 m c (Proc.devRef .tc main_v21))
        (X6 m c (Proc.devRef .tc main_v3)) :=
  (Pipeline.afterRegion_arr (dat3 (X6 m) c) (X6 m c) winFacts3.arr_inj 5).trans (final3 (X6 m) c)

/-- An argument no item writes, before the third region. -/
theorem X4_arg (r : Ref sig .tc) (h0 : r ∉ hostOps0_W) (h1 : r ∉ hostOps1_W) (h2 : r ∉ ([main_v10] : List (Ref sig .tc)))
    (h4 : r ∉ ([main_v16] : List (Ref sig .tc))) : X4 m c r = arg m c r :=
  (X4_of m c r h4).trans ((X3_of m c r h1).trans ((X2_of m c r h2).trans (V1_of m c r h0)))

theorem X2_arg (r : Ref sig .tc) (h0 : r ∉ hostOps0_W) (h2 : r ∉ ([main_v10] : List (Ref sig .tc))) : X2 m c r = arg m c r :=
  (X2_of m c r h2).trans (V1_of m c r h0)

theorem X5_arg (r : Ref sig .tc) (h0 : r ∉ hostOps0_W) (h1 : r ∉ hostOps1_W) (h2 : r ∉ ([main_v10] : List (Ref sig .tc)))
    (h4 : r ∉ ([main_v16] : List (Ref sig .tc))) (h5 : r ∉ ([main_v17] : List (Ref sig .tc))) : X5 m c r = arg m c r :=
  (X5_of m c r h5).trans (X4_arg m c r h0 h1 h2 h4)

/-- The weights the kernel is launched with. -/
def kernelWeights : Weights := weights (arg m c main_arg4) (arg m c main_arg5) (arg m c main_arg6) (arg m c main_arg7)
  (arg m c main_arg8) (arg m c main_arg9) (arg m c main_arg10) (arg m c main_arg11)

/-- The result before anything is said of the starts. -/
theorem X7_eq (t : Fin 512) (b : Fin 8) (j : Fin 256) : (X7 m c (Proc.devRef .tc main_v23) : FVec Ideal S512x8x256 .f32) (ix3 t b j)
    = (second (kernelWeights m c) (fun n => rowAt (V1 m c (Proc.devRef .tc main_v9)) (starts (tbl (adm0 m))) n b)
        (startOf (arg m c main_arg2) (arg m c main_arg3) 0 b) (startOf (arg m c main_arg2) (arg m c main_arg3) 1 b) (t.val + 1)).1 j
      * mask t.val (lenOf (arg m c main_arg1) b) := by
  have r17 : X6 m c (Proc.devRef .tc main_v17) = X5 m c (Proc.devRef .tc main_v17) := X6_of m c main_v17 (by decide)
  have r10 : X3 m c (Proc.devRef .tc main_v10) = X2 m c (Proc.devRef .tc main_v10) := X3_of m c main_v10 (by decide)
  rw [X7_v23, r17, X5_v17, X4_v16, r10, X2_v10]
  have a2 : X2 m c (Proc.devRef .tc main_arg2) = arg m c main_arg2 := X2_arg m c main_arg2 (by decide) (by decide)
  have a3 : X2 m c (Proc.devRef .tc main_arg3) = arg m c main_arg3 := X2_arg m c main_arg3 (by decide) (by decide)
  have a5 : X2 m c (Proc.devRef .tc main_arg5) = arg m c main_arg5 := X2_arg m c main_arg5 (by decide) (by decide)
  have b2 : X5 m c (Proc.devRef .tc main_arg2) = arg m c main_arg2 := X5_arg m c main_arg2 (by decide) (by decide) (by decide) (by decide) (by decide)
  have b3 : X5 m c (Proc.devRef .tc main_arg3) = arg m c main_arg3 := X5_arg m c main_arg3 (by decide) (by decide) (by decide) (by decide) (by decide)
  have b9 : X5 m c (Proc.devRef .tc main_arg9) = arg m c main_arg9 := X5_arg m c main_arg9 (by decide) (by decide) (by decide) (by decide) (by decide)
  have a4 : V1 m c (Proc.devRef .tc main_arg4) = arg m c main_arg4 := V1_of m c main_arg4 (by decide)
  have a8 : X4 m c (Proc.devRef .tc main_arg8) = arg m c main_arg8 := X4_arg m c main_arg8 (by decide) (by decide) (by decide) (by decide)
  have a7 : X4 m c (Proc.devRef .tc main_v7) = V1 m c (Proc.devRef .tc main_v7) :=
    (X4_of m c main_v7 (by decide)).trans ((X3_of m c main_v7 (by decide)).trans (X2_of m c main_v7 (by decide)))
  have l3 : X6 m c (Proc.devRef .tc main_v3) = V1 m c (Proc.devRef .tc main_v3) :=
    (X6_of m c main_v3 (by decide)).trans ((X5_of m c main_v3 (by decide)).trans ((X4_of m c main_v3 (by decide)).trans
      ((X3_of m c main_v3 (by decide)).trans (X2_of m c main_v3 (by decide)))))
  have s0 : startRows (X3 m c (Proc.devRef .tc main_v12)) (X3 m c (Proc.devRef .tc main_v14)) b = startOf (arg m c main_arg2) (arg m c main_arg3) 0 b :=
    Prod.ext (funext fun k => (after1_v12 (X2 m c) b k).trans (by rw [a2]; rfl)) (funext fun k => (after1_v14 (X2 m c) b k).trans (by rw [a3]; rfl))
  have s1 : startRows (X6 m c (Proc.devRef .tc main_v19)) (X6 m c (Proc.devRef .tc main_v21)) b = startOf (arg m c main_arg2) (arg m c main_arg3) 1 b :=
    Prod.ext (funext fun k => (after3_v19 (X5 m c) b k).trans (by rw [b2]; rfl)) (funext fun k => (after3_v21 (X5 m c) b k).trans (by rw [b3]; rfl))
  have el : (X6 m c (Proc.devRef .tc main_v3) : IVec S8x1 32) (ix2 b 0) = lenOf (arg m c main_arg1) b := by
    rw [l3]; exact after0_v3 _ b
  rw [a4, a8, a7]
  refine (passes_eq (kernelWeights m c) _ _ _ _ _ _ _ _ _ _ _ _ _ (fun q k => rfl) (fun q k => ?_) (fun q => after0_v5 _ q) (fun q k => rfl)
    (fun q k => ?_) (fun q => after0_v7 _ q) t b j).trans ?_
  · exact (after1_v15 (X2 m c) q k).trans (by rw [a5]; rfl)
  · exact (after3_v22 (X5 m c) q k).trans (by rw [b9]; rfl)
  · rw [s0, s1, el]

/-- Under the mask the kernel's row is the sequence's own. -/
theorem row_eq (X : FVec Ideal S2816x512 .f32) (x : FVec Ideal S2752x512 .f32) (T : IVec S9 32) (hT : Sound T)
    (hX : ∀ (r : Fin 2816) (h : r.val < 2752) (k : Fin 512), X (ix2 r k) = x (ix2 ⟨r.val, h⟩ k))
    (t : ℕ) (ht : t < 512) (b : Fin 8) (hm : mask t (lenOf T b) = 1) :
    rowAt X (starts T) t b = packedRow x T b t := by
  have hu := (hT b.castSucc).2.1
  have hv := (hT b.succ).2.1
  have hl := (hT b.succ).1
  have hlt : (T (ix1 b.castSucc)).toNat + t < (T (ix1 b.succ)).toNat := mask_lt _ _ hu hv t ht hm
  have hc : (grid0.coords ⟨t / 64 % grid0.N, Nat.mod_lt _ (by decide +kernel)⟩ 0).val = t / 64 := by
    have key : ∀ n : Fin grid0.N, (grid0.coords n 0).val = n.val := by decide +kernel
    rw [key]
    exact Nat.mod_eq_of_lt (lt_of_lt_of_eq (show t / 64 < 8 by omega) (by decide +kernel : (8 : ℕ) = grid0.N))
  have hs : starts T (t / 64) b = (T (ix1 b.castSucc)).toNat + 64 * (t / 64) := by
    unfold starts
    rw [startRow_eq _ _ _ ((hT 8).2.1) hu, hc]
    omega
  funext k
  unfold rowAt packedRow
  rw [dif_pos (by omega)]
  have e : (starts T (t / 64) b + t % 64) % 2816 = (T (ix1 b.castSucc)).toNat + t := by rw [hs]; omega
  refine (hX _ (by show (starts T (t / 64) b + t % 64) % 2816 < 2752; omega) k).trans ?_
  exact congrArg (fun r => x (ix2 r k)) (Fin.ext e)

/-- The kernel's result. -/
theorem X7_packed (hT : Sound (tbl (adm0 m))) (hc : arg m c main_arg1 = tbl (adm0 m)) : X7 m c (Proc.devRef .tc main_v23)
    = packed (arg m c main_arg0) (arg m c main_arg1) (arg m c main_arg2) (arg m c main_arg3) (kernelWeights m c) := by
  funext i
  obtain ⟨t, b, j, rfl⟩ : ∃ (t : Fin 512) (b : Fin 8) (j : Fin 256), i = ix3 t b j := ⟨_, _, _, eq_ix3 (n0 := 512) (n1 := 8) (n2 := 256) i⟩
  refine (X7_eq m c t b j).trans ?_
  show _ = (second (kernelWeights m c) (packedRow (arg m c main_arg0) (arg m c main_arg1) b) (startOf (arg m c main_arg2) (arg m c main_arg3) 0 b)
    (startOf (arg m c main_arg2) (arg m c main_arg3) 1 b) (t.val + 1)).1 j * mask t.val (lenOf (arg m c main_arg1) b)
  rcases mask_zero_or_one t.val (lenOf (arg m c main_arg1) b) with h | h
  · rw [h, mul_zero, mul_zero]
  refine congrArg (fun r : Row => r.1 j * mask t.val (lenOf (arg m c main_arg1) b)) ?_
  refine second_congr _ _ _ _ _ _ fun u hu => ?_
  have hm := mask_earlier u t.val _ (by omega) t.isLt h
  rw [hc] at hm ⊢
  exact row_eq _ (arg m c main_arg0) _ hT (fun r h k => after0_v9 _ r h k) u (by omega) b hm

end Cert.KernelIdeal.Own

end
-- ==== Proof.RefStep.lean ====
/- One trip of the reference's loop, row by row: where the mask is one, each layer's rows take one step. -/
module

public import proofs.«01_k».proof.Proof.Gen.ReferenceIdeal.Run
public import proofs.«01_k».proof.Proof.Packed
public import Idealize.ShloMosaic.Lib.Pointwise
public import Idealize.ShloMosaic.Lib.DynamicIndex
public import Idealize.ShloMosaic.Lib.Pipeline.ValueKit

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value Cert.Lstm

variable (V : Valuation τ sig (Elt Ideal))

/-- The trip's mask bit of sequence `b`. -/
def bitAt (n : Fin 512) (b : Fin 8) : BitVec 1 := (V (Proc.devRef .tc main_v32_1) : IVec S512x8 1) (ix2 n b)

/-- Rows of the carried state. -/
def rows (h c : FVec Ideal S8x256 .f32) (b : Fin 8) : Row := (fun j => h (ix2 b j), fun j => c (ix2 b j))

theorem iv_toInt (n : ℕ) (hn : n < 512) : (Scf.iv 0#32 1#32 n).toInt = (n : ℤ) := by
  have e : Scf.iv 0#32 1#32 n = BitVec.ofNat 32 n := by
    unfold Scf.iv
    simp
  rw [e, BitVec.toInt_eq_toNat_cond, BitVec.toNat_ofNat, Nat.mod_eq_of_lt (by omega), if_pos (by omega)]

/-- The weights and biases the loop carries. -/
def carried : Weights := weights (V (Proc.devRef .tc main_v32_2)) (V (Proc.devRef .tc main_v32_4)) (V (Proc.devRef .tc main_v32_3))
  (V (Proc.devRef .tc main_v32_5)) (V (Proc.devRef .tc main_v32_6)) (V (Proc.devRef .tc main_v32_8)) (V (Proc.devRef .tc main_v32_7)) (V (Proc.devRef .tc main_v32_9))

/-- The trip's input row of sequence `b`. -/
def inRow (n : Fin 512) (b : Fin 8) : Fin 512 → EReal := fun k => (V (Proc.devRef .tc main_v32_0) : FVec Ideal S512x8x512 .f32) (ix3 n b k)

/-- Sequence `b`'s rows of the two layers' states. -/
def row1 (b : Fin 8) : Row := rows (V (Proc.devRef .tc main_v32_11)) (V (Proc.devRef .tc main_v32_12)) b
def row2 (b : Fin 8) : Row := rows (V (Proc.devRef .tc main_v32_13)) (V (Proc.devRef .tc main_v32_14)) b

/-- The gates of one step: the products and the two biases added in either order. -/
theorem gates_eq (a s u v : EReal) : a + u + s + v = a + (u + v) + s := by
  rw [add_assoc, add_comm s v, ← add_assoc, add_assoc a u v]

theorem slices2 (n : Fin 512) : S512x8.Slices ![n.val, 0] S1x8 :=
  ⟨rfl, fun a => match a with
    | 0 => n.isLt
    | 1 => Nat.le_refl 8⟩
theorem slices3 (n : Fin 512) : S512x8x512.Slices ![n.val, 0, 0] S1x8x512 :=
  ⟨rfl, fun a => match a with
    | 0 => n.isLt
    | 1 => Nat.le_refl 8
    | 2 => Nat.le_refl 512⟩
theorem slicesOut (n : Fin 512) : S512x8x256.Slices ![n.val, 0, 0] S1x8x256 :=
  ⟨rfl, fun a => match a with
    | 0 => n.isLt
    | 1 => Nat.le_refl 8
    | 2 => Nat.le_refl 256⟩

/-- The trip's starts, read signed: the counter, then zeros. -/
theorem starts2 (n : Fin 512) (hc : V (Proc.devRef .tc main_v32_10) = fun _ => Scf.iv 0#32 1#32 n.val) (a : Fin 2) :
    (((![V (Proc.devRef .tc main_v32_10), constantI S_ 32 0#32] : Fin 2 → (⟨S_, .i32⟩ : BufTy).Contents (Elt Ideal))) a (Shape.Idx.first h_S_)).toInt
      = ((![n.val, 0] : Fin 2 → ℕ) a : ℤ) :=
  match a with
  | 0 => by rw [hc]; exact iv_toInt n.val n.isLt
  | 1 => rfl
theorem starts3 (n : Fin 512) (hc : V (Proc.devRef .tc main_v32_10) = fun _ => Scf.iv 0#32 1#32 n.val) (a : Fin 3) :
    (((![V (Proc.devRef .tc main_v32_10), constantI S_ 32 0#32, constantI S_ 32 0#32] : Fin 3 → (⟨S_, .i32⟩ : BufTy).Contents (Elt Ideal))) a (Shape.Idx.first h_S_)).toInt
      = ((![n.val, 0, 0] : Fin 3 → ℕ) a : ℤ) :=
  match a with
  | 0 => by rw [hc]; exact iv_toInt n.val n.isLt
  | 1 => rfl
  | 2 => rfl

theorem v36_at (n : Fin 512) (hc : V (Proc.devRef .tc main_v32_10) = fun _ => Scf.iv 0#32 1#32 n.val) (b : Fin 8) :
    (res_main_while0b_v36 V : FVec Ideal S8x1 .f32) (ix2 b 0) = FloatOps.uitofp (F := Ideal) .f32 (bitAt V n b) := by
  unfold res_main_while0b_v36
  rw [Host.dynamicSlice_eq_extractStridedSlice S1x8 _ _ ![n.val, 0] _ (slices2 n) (starts2 V n hc)]
  pointwise
  rfl

theorem v47_at (n : Fin 512) (hc : V (Proc.devRef .tc main_v32_10) = fun _ => Scf.iv 0#32 1#32 n.val) (b : Fin 8) (q : Fin 1024) :
    (res_main_while0b_v47 V : FVec Ideal S8x1024 .f32) (ix2 b q)
      = gates (carried V).Wh0 (dense (carried V).Wi0 (carried V).v0 (inRow V n b)) (row1 V b).1 q := by
  unfold res_main_while0b_v47
  rw [Host.dynamicSlice_eq_extractStridedSlice S1x8x512 _ _ ![n.val, 0, 0] _ (slices3 n) (starts3 V n hc)]
  pointwise
  exact gates_eq _ _ _ _

theorem v100_at (b : Fin 8) (q : Fin 1024) :
    (res_main_while0b_v100 V : FVec Ideal S8x1024 .f32) (ix2 b q)
      = gates (carried V).Wh1 (dense (carried V).Wi1 (carried V).v1 fun k => (res_main_while0b_v82 V : FVec Ideal S8x256 .f32) (ix2 b k)) (row2 V b).1 q := by
  pointwise [res_main_while0b_v100]
  exact gates_eq _ _ _ _

theorem v73_at (b : Fin 8) (j : Fin 256) :
    (res_main_while0b_v73 V : FVec Ideal S8x256 .f32) (ix2 b j) = cellC (fun q => (res_main_while0b_v47 V : FVec Ideal S8x1024 .f32) (ix2 b q))
      ((row1 V b).2 j) j := by
  pointwise [res_main_while0b_v73]
  rfl

theorem v126_at (b : Fin 8) (j : Fin 256) :
    (res_main_while0b_v126 V : FVec Ideal S8x256 .f32) (ix2 b j) = cellC (fun q => (res_main_while0b_v100 V : FVec Ideal S8x1024 .f32) (ix2 b q))
      ((row2 V b).2 j) j := by
  pointwise [res_main_while0b_v126]
  rfl

/-- A state value kept under the mask's complement, the mask one. -/
theorem blend (p u h : EReal) (hp : p = 1) : p * u + (1 - p) * h = u := by
  rw [hp, one_mul, EReal.sub_self (by decide) (by decide), zero_mul, add_zero]

theorem v82_at (b : Fin 8) (j : Fin 256) (hm : (res_main_while0b_v36 V : FVec Ideal S8x1 .f32) (ix2 b 0) = (1 : EReal)) :
    (res_main_while0b_v82 V : FVec Ideal S8x256 .f32) (ix2 b j) = cellH (fun q => (res_main_while0b_v47 V : FVec Ideal S8x1024 .f32) (ix2 b q))
      ((row1 V b).2 j) j := by
  pointwise [res_main_while0b_v82]
  refine (blend _ _ _ hm).trans ?_
  rw [v73_at]
  rfl

theorem v135_at (b : Fin 8) (j : Fin 256) (hm : (res_main_while0b_v36 V : FVec Ideal S8x1 .f32) (ix2 b 0) = (1 : EReal)) :
    (res_main_while0b_v135 V : FVec Ideal S8x256 .f32) (ix2 b j) = cellH (fun q => (res_main_while0b_v100 V : FVec Ideal S8x1024 .f32) (ix2 b q))
      ((row2 V b).2 j) j := by
  pointwise [res_main_while0b_v135]
  refine (blend _ _ _ hm).trans ?_
  rw [v126_at]
  rfl

theorem c1_at (b : Fin 8) (j : Fin 256) (hm : (res_main_while0b_v36 V : FVec Ideal S8x1 .f32) (ix2 b 0) = (1 : EReal)) :
    (step_main_v32_12 V : FVec Ideal S8x256 .f32) (ix2 b j) = (res_main_while0b_v73 V : FVec Ideal S8x256 .f32) (ix2 b j) := by
  simp only [step_main_v32_12, id_eq]
  pointwise
  exact blend _ _ _ hm

theorem c2_at (b : Fin 8) (j : Fin 256) (hm : (res_main_while0b_v36 V : FVec Ideal S8x1 .f32) (ix2 b 0) = (1 : EReal)) :
    (step_main_v32_14 V : FVec Ideal S8x256 .f32) (ix2 b j) = (res_main_while0b_v126 V : FVec Ideal S8x256 .f32) (ix2 b j) := by
  simp only [step_main_v32_14, id_eq]
  pointwise
  exact blend _ _ _ hm

/-- One trip of the first layer. -/
theorem row1_step (n : Fin 512) (hc : V (Proc.devRef .tc main_v32_10) = fun _ => Scf.iv 0#32 1#32 n.val) (b : Fin 8)
    (hm : (res_main_while0b_v36 V : FVec Ideal S8x1 .f32) (ix2 b 0) = (1 : EReal)) :
    row1 (STEP V) b = stepRow (carried V).Wh0 (dense (carried V).Wi0 (carried V).v0 (inRow V n b)) (row1 V b) := by
  have eg : (fun q => (res_main_while0b_v47 V : FVec Ideal S8x1024 .f32) (ix2 b q))
    = gates (carried V).Wh0 (dense (carried V).Wi0 (carried V).v0 (inRow V n b)) (row1 V b).1 := funext fun q => v47_at V n hc b q
  refine Prod.ext (funext fun j => ?_) (funext fun j => ?_)
  · show (STEP V (Proc.devRef .tc main_v32_11) : FVec Ideal S8x256 .f32) (ix2 b j) = cellH _ _ j
    rw [STEP_main_v32_11, ← eg]
    exact v82_at V b j hm
  · show (STEP V (Proc.devRef .tc main_v32_12) : FVec Ideal S8x256 .f32) (ix2 b j) = cellC _ _ j
    rw [STEP_main_v32_12, ← eg]
    exact (c1_at V b j hm).trans (v73_at V b j)

/-- One trip of the second layer, fed by the first's new hidden row. -/
theorem row2_step (b : Fin 8) (hm : (res_main_while0b_v36 V : FVec Ideal S8x1 .f32) (ix2 b 0) = (1 : EReal)) :
    row2 (STEP V) b = stepRow (carried V).Wh1 (dense (carried V).Wi1 (carried V).v1 (row1 (STEP V) b).1) (row2 V b) := by
  have er : (row1 (STEP V) b).1 = fun k => (res_main_while0b_v82 V : FVec Ideal S8x256 .f32) (ix2 b k) := by
    funext k
    show (STEP V (Proc.devRef .tc main_v32_11) : FVec Ideal S8x256 .f32) (ix2 b k) = _
    rw [STEP_main_v32_11]
    rfl
  have eg : (fun q => (res_main_while0b_v100 V : FVec Ideal S8x1024 .f32) (ix2 b q))
    = gates (carried V).Wh1 (dense (carried V).Wi1 (carried V).v1 (row1 (STEP V) b).1) (row2 V b).1 := by
    rw [er]; exact funext fun q => v100_at V b q
  refine Prod.ext (funext fun j => ?_) (funext fun j => ?_)
  · show (STEP V (Proc.devRef .tc main_v32_13) : FVec Ideal S8x256 .f32) (ix2 b j) = cellH _ _ j
    rw [STEP_main_v32_13, ← eg]
    exact v135_at V b j hm
  · show (STEP V (Proc.devRef .tc main_v32_14) : FVec Ideal S8x256 .f32) (ix2 b j) = cellC _ _ j
    rw [STEP_main_v32_14, ← eg]
    exact (c2_at V b j hm).trans (v126_at V b j)

theorem clamp_nat (k u s : ℕ) (h : k + u ≤ s) : (min (max (k : ℤ) 0) ((s - u : ℕ) : ℤ)).toNat = k := by omega

/-- One trip of the output: row `n` is the second layer's new hidden row under the mask, the others as before. -/
theorem out_step (n : Fin 512) (hc : V (Proc.devRef .tc main_v32_10) = fun _ => Scf.iv 0#32 1#32 n.val) (t : Fin 512) (b : Fin 8) (j : Fin 256) :
    (STEP V (Proc.devRef .tc main_v32_15) : FVec Ideal S512x8x256 .f32) (ix3 t b j)
      = if t = n then @HMul.hMul EReal EReal EReal _ ((row2 (STEP V) b).1 j) ((res_main_while0b_v36 V : FVec Ideal S8x1 .f32) (ix2 b 0))
        else (V (Proc.devRef .tc main_v32_15) : FVec Ideal S512x8x256 .f32) (ix3 t b j) := by
  have er : (row2 (STEP V) b).1 j = (res_main_while0b_v135 V : FVec Ideal S8x256 .f32) (ix2 b j) := by
    show (STEP V (Proc.devRef .tc main_v32_13) : FVec Ideal S8x256 .f32) (ix2 b j) = _
    rw [STEP_main_v32_13]
    rfl
  rw [STEP_main_v32_15, er]
  simp only [step_main_v32_15, id_eq]
  rw [Host.dynamicUpdateSlice_eq_updateSlice _ _ _ _ ![n.val, 0, 0] (fun a => ?_) (slicesOut n)]
  · pointwise
    by_cases h : t = n
    · rw [if_pos h, dif_pos]
      intro a
      match a with
      | 0 => exact ⟨le_of_eq (congrArg Fin.val h.symm), lt_of_eq_of_lt (congrArg Fin.val h) (Nat.lt_succ_self _)⟩
      | 1 => exact ⟨Nat.zero_le _, lt_of_lt_of_eq b.isLt (Nat.zero_add 8).symm⟩
      | 2 => exact ⟨Nat.zero_le _, lt_of_lt_of_eq j.isLt (Nat.zero_add 256).symm⟩
    · rw [if_neg h, dif_neg]
      intro ha
      have h0 : n.val ≤ t.val ∧ t.val < n.val + 1 := ha 0
      exact h (Fin.ext (by omega))
  · rw [starts3 V n hc a]
    exact clamp_nat _ _ _ ((slicesOut n).2 a)

end Cert.ReferenceIdeal.Own

end
-- ==== Proof.RefLoop.lean ====
/- The reference's loop, all trips: the carried rows after each trip under the mask, and the output the loop leaves. -/
module

public import proofs.«01_k».proof.Proof.RefStep

@[expose] public section

set_option maxRecDepth 16384

noncomputable section

namespace Cert.ReferenceIdeal.Own

open Idealize.ShloMosaic Idealize.ShloMosaic.TcCoe Idealize.SL.Sem
open Idealize.ShloMosaic.StableHlo
open Cert.ReferenceIdeal Cert.ReferenceIdeal.Gen Cert.ReferenceIdeal.Value Cert.Lstm

variable (m : (ℓ : Loc nD τ sig) → Buf (Elt Ideal) ℓ) (c : Dev nD)

/-- The buffers after `k` trips. -/
def trips (k : ℕ) : Valuation τ sig (Elt Ideal) := STEP^[k] (entryContents preI m c)

theorem trips_succ (k : ℕ) : trips m c (k + 1) = STEP (trips m c k) := Function.iterate_succ_apply' _ _ _

theorem trips_ctr (k : ℕ) : trips m c k (Proc.devRef .tc main_v32_10) = fun _ => Scf.iv 0#32 1#32 k :=
  (atK_agree m c k main_v32_10 (by decide)).symm.trans (atK_ctr m c k)

/-- A buffer the trip keeps is as at the loop's entry. -/
theorem trips_keep (r : Ref sig .tc) (h : ∀ V : Valuation τ sig (Elt Ideal), STEP V (Proc.devRef .tc r) = V (Proc.devRef .tc r)) (k : ℕ) :
    trips m c k (Proc.devRef .tc r) = trips m c 0 (Proc.devRef .tc r) := by
  induction k with
  | zero => rfl
  | succ k ih => rw [trips_succ, h, ih]

theorem trips_bit (k : ℕ) (n : Fin 512) (b : Fin 8) : bitAt (trips m c k) n b = bitAt (trips m c 0) n b := by
  unfold bitAt; rw [trips_keep m c main_v32_1 STEP_main_v32_1 k]

theorem trips_in (k : ℕ) (n : Fin 512) (b : Fin 8) : inRow (trips m c k) n b = inRow (trips m c 0) n b := by
  unfold inRow; rw [trips_keep m c main_v32_0 STEP_main_v32_0 k]

theorem trips_carried (k : ℕ) : carried (trips m c k) = carried (trips m c 0) := by
  unfold carried
  rw [trips_keep m c main_v32_2 STEP_main_v32_2 k, trips_keep m c main_v32_3 STEP_main_v32_3 k, trips_keep m c main_v32_4 STEP_main_v32_4 k,
    trips_keep m c main_v32_5 STEP_main_v32_5 k, trips_keep m c main_v32_6 STEP_main_v32_6 k, trips_keep m c main_v32_7 STEP_main_v32_7 k,
    trips_keep m c main_v32_8 STEP_main_v32_8 k, trips_keep m c main_v32_9 STEP_main_v32_9 k]

/-- The mask of a trip, read off the loop's entry. -/
def maskAt (n : Fin 512) (b : Fin 8) : EReal := FloatOps.uitofp (F := Ideal) .f32 (bitAt (trips m c 0) n b)

theorem trips_mask (n : Fin 512) (b : Fin 8) :
    (res_main_while0b_v36 (trips m c n.val) : FVec Ideal S8x1 .f32) (ix2 b 0) = maskAt m c n b := by
  rw [v36_at _ n (trips_ctr m c n.val) b, trips_bit]
  rfl

/-- The rows the loop feeds to sequence `b`. -/
def fed (b : Fin 8) (t : ℕ) : Fin 512 → EReal := inRow (trips m c 0) ⟨t % 512, Nat.mod_lt _ (by decide)⟩ b

/-- While the mask is one, each layer's rows are the layer run from its start. -/
theorem trips_rows (b : Fin 8) (n : ℕ) (hn : n ≤ 512) (h : ∀ t : Fin 512, t.val < n → maskAt m c t b = 1) :
    row1 (trips m c n) b = first (carried (trips m c 0)) (fed m c b) (row1 (trips m c 0) b) n
    ∧ row2 (trips m c n) b = second (carried (trips m c 0)) (fed m c b) (row1 (trips m c 0) b) (row2 (trips m c 0) b) n := by
  induction n with
  | zero => exact ⟨rfl, rfl⟩
  | succ n ih =>
    have hlt : n < 512 := by omega
    obtain ⟨i1, i2⟩ := ih (by omega) fun t ht => h t (by omega)
    have hm : (res_main_while0b_v36 (trips m c n) : FVec Ideal S8x1 .f32) (ix2 b 0) = (1 : EReal) :=
      (trips_mask m c ⟨n, hlt⟩ b).trans (h ⟨n, hlt⟩ (Nat.lt_succ_self n))
    have ef : fed m c b n = inRow (trips m c 0) ⟨n, hlt⟩ b := by
      unfold fed
      exact congrArg (fun q => inRow (trips m c 0) q b) (Fin.ext (Nat.mod_eq_of_lt hlt))
    have e1 : row1 (trips m c (n + 1)) b = first (carried (trips m c 0)) (fed m c b) (row1 (trips m c 0) b) (n + 1) := by
      rw [trips_succ, row1_step (trips m c n) ⟨n, hlt⟩ (trips_ctr m c n) b hm, trips_carried, trips_in, i1, ← ef]
      rfl
    refine ⟨e1, ?_⟩
    rw [trips_succ, row2_step (trips m c n) b hm, ← trips_succ, e1, i2, trips_carried]
    rfl

/-- The output after `n` trips, at a row already written. -/
theorem trips_out (t : Fin 512) (b : Fin 8) (j : Fin 256) (n : ℕ) (hn : n ≤ 512) (ht : t.val < n) :
    (trips m c n (Proc.devRef .tc main_v32_15) : FVec Ideal S512x8x256 .f32) (ix3 t b j)
      = @HMul.hMul EReal EReal EReal _ ((row2 (trips m c (t.val + 1)) b).1 j) (maskAt m c t b) := by
  induction n with
  | zero => omega
  | succ n ih =>
    have hlt : n < 512 := by omega
    rw [trips_succ, out_step (trips m c n) ⟨n, hlt⟩ (trips_ctr m c n) t b j]
    by_cases e : t.val = n
    · subst e
      rw [if_pos (Fin.ext rfl), trips_mask m c t b, ← trips_succ]
    · rw [if_neg fun q => e (congrArg Fin.val q)]
      exact ih (by omega) (by omega)

end Cert.ReferenceIdeal.Own

end
-- ==== Proof.RefReads.lean ====
/- What the reference's lines before its loop leave in the buffers the loop carries, read at an index. -/
module

public import proofs.«01_k».proof.Proof.RefStep
public import Idealize.ShloMosaic.Lib.Claim
public import Idealize.ShloMosaic.Lib.StableHlo.ReadAt

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value Cert.Lstm

variable (V : Valuation τ sig (Elt Ideal))

/-! ## The last stretch: the masked rows, the mask and the states laid out for the loop -/

theorem last_x (n : Fin 512) (b : Fin 8) (k : Fin 512) : (StableHlo.after hostOps0_3 V (Proc.devRef .tc main_v32_0) : FVec Ideal S512x8x512 .f32) (ix3 n b k)
    = @HMul.hMul EReal EReal EReal _ ((V (Proc.devRef .tc main_v16) : FVec Ideal S8x512x512 .f32) (ix3 b n k))
        (FloatOps.uitofp (F := Ideal) .f32 ((V (Proc.devRef .tc main_v14) : IVec S8x512 1) (ix2 b n))) := by
  entry_read
  pointwise

theorem last_bit (n : Fin 512) (b : Fin 8) : (StableHlo.after hostOps0_3 V (Proc.devRef .tc main_v32_1) : IVec S512x8 1) (ix2 n b)
    = (V (Proc.devRef .tc main_v14) : IVec S8x512 1) (ix2 b n) := by
  entry_read
  pointwise

theorem last_h1 (b : Fin 8) (j : Fin 256) : (StableHlo.after hostOps0_3 V (Proc.devRef .tc main_v32_11) : FVec Ideal S8x256 .f32) (ix2 b j)
    = (V (Proc.devRef .tc main_arg2) : FVec Ideal S2x8x256 .f32) (ix3 0 b j) := by
  entry_read
  pointwise

theorem last_c1 (b : Fin 8) (j : Fin 256) : (StableHlo.after hostOps0_3 V (Proc.devRef .tc main_v32_12) : FVec Ideal S8x256 .f32) (ix2 b j)
    = (V (Proc.devRef .tc main_arg3) : FVec Ideal S2x8x256 .f32) (ix3 0 b j) := by
  entry_read
  pointwise

theorem last_h2 (b : Fin 8) (j : Fin 256) : (StableHlo.after hostOps0_3 V (Proc.devRef .tc main_v32_13) : FVec Ideal S8x256 .f32) (ix2 b j)
    = (V (Proc.devRef .tc main_arg2) : FVec Ideal S2x8x256 .f32) (ix3 1 b j) := by
  entry_read
  pointwise

theorem last_c2 (b : Fin 8) (j : Fin 256) : (StableHlo.after hostOps0_3 V (Proc.devRef .tc main_v32_14) : FVec Ideal S8x256 .f32) (ix2 b j)
    = (V (Proc.devRef .tc main_arg3) : FVec Ideal S2x8x256 .f32) (ix3 1 b j) := by
  entry_read
  pointwise

/-- The weights the loop carries are the arguments. -/
theorem last_weights : carried (StableHlo.after hostOps0_3 V) = weights (V (Proc.devRef .tc main_arg4)) (V (Proc.devRef .tc main_arg5))
    (V (Proc.devRef .tc main_arg6)) (V (Proc.devRef .tc main_arg7)) (V (Proc.devRef .tc main_arg8)) (V (Proc.devRef .tc main_arg9))
    (V (Proc.devRef .tc main_arg10)) (V (Proc.devRef .tc main_arg11)) := by
  unfold carried
  entry_read
  rfl

/-! ## The first stretches: the row each sequence's step reads, and the mask -/

theorem first_bit (b : Fin 8) (n : Fin 512) : (StableHlo.after hostOps0 V (Proc.devRef .tc main_v14) : IVec S8x512 1) (ix2 b n)
    = IntOp.cmpi .slt (BitVec.ofNat 32 n.val) (lenOf (V (Proc.devRef .tc main_arg1)) b) := by
  entry_read
  pointwise
  have e : (⟨1 + b.val, by omega⟩ : Fin 9) = b.succ := Fin.ext (Nat.add_comm 1 b.val)
  rw [e]
  rfl

theorem first_row (b : Fin 8) (n : Fin 512) : (StableHlo.after hostOps0 V (Proc.devRef .tc main_v9) : IVec S8x512 32) (ix2 b n)
    = IntOp.addi ((V (Proc.devRef .tc main_arg1) : IVec S9 32) (ix1 b.castSucc)) (BitVec.ofNat 32 n.val) := by
  entry_read
  pointwise
  rfl

theorem first_zero : (StableHlo.after hostOps0 V (Proc.devRef .tc main_c) : IVec S_ 32) ix0 = 0#32 := by
  entry_read
  rfl

theorem where_row (b : Fin 8) (n : Fin 512) : (StableHlo.after hostOps0_1 V (Proc.devRef .tc main_v15) : IVec S8x512 32) (ix2 b n)
    = Scalar.select ((V (Proc.devRef .tc main_v14) : IVec S8x512 1) (ix2 b n)) ((V (Proc.devRef .tc main_v9) : IVec S8x512 32) (ix2 b n))
        ((V (Proc.devRef .tc main_c) : IVec S_ 32) ix0) := by
  after_reads_at
  rfl

end Cert.ReferenceIdeal.Own

end
-- ==== Proof.RefTake.lean ====
/- The reference's gather, read at an index: the packed row, where every index is in range. -/
module

public import proofs.«01_k».proof.Proof.RefStep
public import Idealize.ShloMosaic.Lib.Claim
public import Idealize.ShloMosaic.Lib.ReduceAll
public import Idealize.ShloMosaic.Lib.StableHlo.ReadAt

@[expose] public section

set_option maxRecDepth 16384

noncomputable section

namespace Cert.ReferenceIdeal.Own

open Idealize.ShloMosaic Idealize.ShloMosaic.TcCoe Idealize.SL.Sem
open Cert.ReferenceIdeal Cert.ReferenceIdeal.Gen Cert.ReferenceIdeal.Value Cert.Lstm

variable (V : Valuation τ sig (Elt Ideal))

/-- The start-index entry that result entry `(b, n, k)` reads. -/
abbrev startIdx (b : Fin 8) (n : Fin 512) : S8x512x1.Idx := ix3 b n 0

/-- The gather of whole rows, read at an index: the row is the start index clamped into the array. -/
theorem gather_row (x : FVec Ideal S2752x512 .f32) (idx : IVec S8x512x1 32) (b : Fin 8) (n k : Fin 512) :
    Host.gather gather_S2752x512_S8x512x1_S8x512x512_2_0_n_n_0_2_1512 x idx (ix3 b n k)
      = x (ix2 ⟨min (idx (startIdx b n)).toInt.toNat 2751, by omega⟩ k) := by
  set d := gather_S2752x512_S8x512x1_S8x512x512_2_0_n_n_0_2_1512 with hd
  unfold Host.gather
  congr 1
  funext a
  refine Fin.ext ?_
  show d.start (ix3 b n k) idx a + d.batchCoord (ix3 b n k) a + d.offCoord (ix3 b n k) a = _
  rw [GatherDims.batchCoord_eq_zero _ _ _ (fun h => by simp [hd, gather_S2752x512_S8x512x1_S8x512x512_2_0_n_n_0_2_1512] at h)]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ d.startIndexMap from List.mem_singleton.mpr rfl)]
    have hsi : d.siIdx (ix3 b n k) ⟨List.idxOf (0 : Fin 2) d.startIndexMap,
        List.idxOf_lt_length_iff.2 (List.mem_singleton.mpr rfl)⟩ = startIdx b n := by
      funext c; refine Fin.ext ?_
      match c with
      | ⟨0, _⟩ => rfl
      | ⟨1, _⟩ => rfl
      | ⟨2, _⟩ => rfl
    rw [hsi]
    rfl
  · have hs : d.start (ix3 b n k) idx 1 = 0 := by
      unfold GatherDims.start
      exact dif_neg (show (1 : Fin 2) ∉ [(0 : Fin 2)] from by decide)
    rw [hs]
    simp only [Nat.zero_add, Nat.add_zero]
    rfl

theorem toInt_small (v : BitVec 32) (h : v.toNat < 2752) : v.toInt = (v.toNat : Int) := by
  rw [BitVec.toInt_eq_toNat_cond, if_pos (by omega)]

/-- An index in range is left as it is by the wrap of negative indices. -/
theorem wrap_id (v : BitVec 32) (h : v.toNat < 2752) : Scalar.select (IntOp.cmpi .slt v 0#32) (IntOp.addi v 2752#32) v = v := by
  have e : IntOp.cmpi .slt v 0#32 = 0#1 := by
    have := toInt_small v h
    show BitVec.ofBool (decide (v.toInt < 0)) = 0#1
    rw [decide_eq_false (by omega)]; rfl
  rw [e]; rfl

/-- An index in range passes both range checks. -/
theorem in_range (v : BitVec 32) (h : v.toNat < 2752) : IntOp.andi (IntOp.cmpi .sge v 0#32) (IntOp.cmpi .sle v 2751#32) = 1#1 := by
  have := toInt_small v h
  have e1 : IntOp.cmpi .sge v 0#32 = 1#1 := by
    show BitVec.ofBool (decide (0 ≤ v.toInt)) = 1#1
    rw [decide_eq_true (by omega)]; rfl
  have e2 : IntOp.cmpi .sle v 2751#32 = 1#1 := by
    show BitVec.ofBool (decide (v.toInt ≤ 2751)) = 1#1
    rw [decide_eq_true (by omega)]; rfl
  rw [e1, e2]; rfl

/-- The conjunction of ones over any finite set is one. -/
theorem fold_ones {ι : Type} (s : Finset ι) : s.fold IntOp.andi 1#1 (fun _ => 1#1) = 1#1 := by
  classical
  induction s using Finset.induction_on with
  | empty => rfl
  | insert a s ha ih => rw [Finset.fold_insert ha, ih]; rfl

/-- The gathered row, every index in range. -/
theorem take_row (hV : ∀ (b : Fin 8) (n : Fin 512), ((V (Proc.devRef .tc main_v15) : IVec S8x512 32) (ix2 b n)).toNat < 2752)
    (b : Fin 8) (n k : Fin 512) : (StableHlo.after hostOps0_2 V (Proc.devRef .tc main_v16) : FVec Ideal S8x512x512 .f32) (ix3 b n k)
    = (V (Proc.devRef .tc main_arg0) : FVec Ideal S2752x512 .f32) (ix2 ⟨_, hV b n⟩ k) := by
  after_reads_at
  rw [gather_row]
  have hw := wrap_id _ (hV b n)
  rw [hw, in_range _ (hV b n)]
  rw [fold_ones, ValueIdx.select_one]
  refine congrArg (fun r => (V (Proc.devRef .tc main_arg0) : FVec Ideal S2752x512 .f32) (ix2 r k)) (Fin.ext ?_)
  pointwise
  rw [hw, toInt_small _ (hV b n)]
  have := hV b n
  omega

end Cert.ReferenceIdeal.Own

end
-- ==== Proof.RefValue.lean ====
/- The reference's result: at the loop's entry the fed rows are each sequence's packed rows and the mask is the one of its length;
   so what the loop leaves is the packed result. -/
module

public import proofs.«01_k».proof.Proof.RefLoop
public import proofs.«01_k».proof.Proof.RefReads
public import proofs.«01_k».proof.Proof.RefTake

@[expose] public section

set_option maxRecDepth 16384

noncomputable section

namespace Cert.ReferenceIdeal.Own

open Idealize.ShloMosaic Idealize.ShloMosaic.TcCoe Idealize.SL.Sem
open Idealize.ShloMosaic.StableHlo
open Cert.ReferenceIdeal Cert.ReferenceIdeal.Gen Cert.ReferenceIdeal.Value Cert.Lstm

theorem bit_of_mask (n : ℕ) (len : BitVec 32) (h : mask n len = 1) : IntOp.cmpi .slt (BitVec.ofNat 32 n) len = 1#1 := by
  show BitVec.ofBool ((BitVec.ofNat 32 n).slt len) = 1#1
  unfold mask at h
  by_cases hs : (BitVec.ofNat 32 n).slt len = true
  · rw [hs]; rfl
  · rw [if_neg hs] at h; exact absurd h zero_ne_one

theorem mask_of_bit (n : ℕ) (len : BitVec 32) (h : IntOp.cmpi .slt (BitVec.ofNat 32 n) len = 1#1) : mask n len = 1 := by
  unfold mask
  by_cases hs : (BitVec.ofNat 32 n).slt len = true
  · exact if_pos hs
  · have e : IntOp.cmpi .slt (BitVec.ofNat 32 n) len = 0#1 := by
      show BitVec.ofBool ((BitVec.ofNat 32 n).slt len) = 0#1
      rw [Bool.not_eq_true] at hs
      rw [hs]; rfl
    rw [e] at h
    exact absurd h (by decide)

variable (m : (ℓ : Loc nD τ sig) → Buf (Elt Ideal) ℓ) (c : Dev nD)

/-- A buffer as launched. -/
abbrev arg (r : Ref sig .tc) := m ((c.tc : Thread nD τ).loc r)

/-- The buffers after the first two stretches, and after the gather. -/
def early : Valuation τ sig (Elt Ideal) := after hostOps0_1 (after hostOps0 (launchContents m c))
def late : Valuation τ sig (Elt Ideal) := after hostOps0_2 (early m c)

theorem trips_zero : trips m c 0 = after hostOps0_3 (late m c) := rfl

theorem late_arg (r : Ref sig .tc) (h0 : ∀ V : Valuation τ sig (Elt Ideal), after hostOps0 V (Proc.devRef .tc r) = V (Proc.devRef .tc r))
    (h1 : ∀ V : Valuation τ sig (Elt Ideal), after hostOps0_1 V (Proc.devRef .tc r) = V (Proc.devRef .tc r))
    (h2 : ∀ V : Valuation τ sig (Elt Ideal), after hostOps0_2 V (Proc.devRef .tc r) = V (Proc.devRef .tc r)) :
    late m c (Proc.devRef .tc r) = arg m c r := (h2 _).trans ((h1 _).trans (h0 _))

/-- The arguments' weights. -/
def argWeights : Weights := weights (arg m c main_arg4) (arg m c main_arg5) (arg m c main_arg6) (arg m c main_arg7) (arg m c main_arg8)
  (arg m c main_arg9) (arg m c main_arg10) (arg m c main_arg11)

theorem carried_zero : carried (trips m c 0) = argWeights m c := by
  rw [trips_zero, last_weights,
    late_arg m c main_arg4 keep_main_arg4_hostOps0 keep_main_arg4_hostOps0_1 keep_main_arg4_hostOps0_2,
    late_arg m c main_arg5 keep_main_arg5_hostOps0 keep_main_arg5_hostOps0_1 keep_main_arg5_hostOps0_2,
    late_arg m c main_arg6 keep_main_arg6_hostOps0 keep_main_arg6_hostOps0_1 keep_main_arg6_hostOps0_2,
    late_arg m c main_arg7 keep_main_arg7_hostOps0 keep_main_arg7_hostOps0_1 keep_main_arg7_hostOps0_2,
    late_arg m c main_arg8 keep_main_arg8_hostOps0 keep_main_arg8_hostOps0_1 keep_main_arg8_hostOps0_2,
    late_arg m c main_arg9 keep_main_arg9_hostOps0 keep_main_arg9_hostOps0_1 keep_main_arg9_hostOps0_2,
    late_arg m c main_arg10 keep_main_arg10_hostOps0 keep_main_arg10_hostOps0_1 keep_main_arg10_hostOps0_2,
    late_arg m c main_arg11 keep_main_arg11_hostOps0 keep_main_arg11_hostOps0_1 keep_main_arg11_hostOps0_2]
  rfl

theorem row1_zero (b : Fin 8) : row1 (trips m c 0) b = startOf (arg m c main_arg2) (arg m c main_arg3) 0 b := by
  refine Prod.ext (funext fun j => ?_) (funext fun j => ?_)
  · refine (last_h1 (late m c) b j).trans ?_
    rw [late_arg m c main_arg2 keep_main_arg2_hostOps0 keep_main_arg2_hostOps0_1 keep_main_arg2_hostOps0_2]
    rfl
  · refine (last_c1 (late m c) b j).trans ?_
    rw [late_arg m c main_arg3 keep_main_arg3_hostOps0 keep_main_arg3_hostOps0_1 keep_main_arg3_hostOps0_2]
    rfl

theorem row2_zero (b : Fin 8) : row2 (trips m c 0) b = startOf (arg m c main_arg2) (arg m c main_arg3) 1 b := by
  refine Prod.ext (funext fun j => ?_) (funext fun j => ?_)
  · refine (last_h2 (late m c) b j).trans ?_
    rw [late_arg m c main_arg2 keep_main_arg2_hostOps0 keep_main_arg2_hostOps0_1 keep_main_arg2_hostOps0_2]
    rfl
  · refine (last_c2 (late m c) b j).trans ?_
    rw [late_arg m c main_arg3 keep_main_arg3_hostOps0 keep_main_arg3_hostOps0_1 keep_main_arg3_hostOps0_2]
    rfl

/-- The mask bit after the first stretches, and as the gather leaves it. -/
theorem late_bit (b : Fin 8) (n : Fin 512) : (late m c (Proc.devRef .tc main_v14) : IVec S8x512 1) (ix2 b n)
    = IntOp.cmpi .slt (BitVec.ofNat 32 n.val) (lenOf (arg m c main_arg1) b) := by
  have e : late m c (Proc.devRef .tc main_v14) = after hostOps0 (launchContents m c) (Proc.devRef .tc main_v14) :=
    (after_of_writes_sub hostOps0_2 _ hostOps0_2_writes (by decide +kernel)).trans
      (after_of_writes_sub hostOps0_1 _ hostOps0_1_writes (by decide +kernel))
  rw [e]
  exact first_bit (launchContents m c) b n

theorem mask_zero (b : Fin 8) (n : Fin 512) : maskAt m c n b = mask n.val (lenOf (arg m c main_arg1) b) := by
  unfold maskAt bitAt
  rw [trips_zero, last_bit, late_bit, mask_unsigned]

/-- The index the gather reads. -/
theorem early_row (b : Fin 8) (n : Fin 512) : (early m c (Proc.devRef .tc main_v15) : IVec S8x512 32) (ix2 b n)
    = Scalar.select (IntOp.cmpi .slt (BitVec.ofNat 32 n.val) (lenOf (arg m c main_arg1) b))
        (IntOp.addi ((arg m c main_arg1 : IVec S9 32) (ix1 b.castSucc)) (BitVec.ofNat 32 n.val)) 0#32 := by
  refine (where_row _ b n).trans ?_
  rw [first_bit, first_row, first_zero]

variable (hT : ∀ k : Fin 9, ((arg m c main_arg1 : IVec S9 32) (ix1 k)).toNat ≤ 2752)
include hT

theorem row_toNat (b : Fin 8) (n : Fin 512) (h : mask n.val (lenOf (arg m c main_arg1) b) = 1) :
    ((early m c (Proc.devRef .tc main_v15) : IVec S8x512 32) (ix2 b n)).toNat = ((arg m c main_arg1 : IVec S9 32) (ix1 b.castSucc)).toNat + n.val
    ∧ ((arg m c main_arg1 : IVec S9 32) (ix1 b.castSucc)).toNat + n.val < 2752 := by
  have hl := mask_lt _ _ (hT b.castSucc) (hT b.succ) n.val n.isLt h
  have hs := hT b.succ
  have hlt := lt_of_lt_of_le hl hs
  refine ⟨?_, hlt⟩
  rw [early_row, bit_of_mask _ _ h, ValueIdx.select_one]
  show (_ + _ : BitVec 32).toNat = _
  rw [BitVec.toNat_add, BitVec.toNat_ofNat, Nat.mod_eq_of_lt (by omega : n.val < 2 ^ 32)]
  exact Nat.mod_eq_of_lt (lt_trans hlt (by decide))

theorem row_lt (b : Fin 8) (n : Fin 512) : ((early m c (Proc.devRef .tc main_v15) : IVec S8x512 32) (ix2 b n)).toNat < 2752 := by
  rcases BitVec.eq_zero_or_eq_one (IntOp.cmpi .slt (BitVec.ofNat 32 n.val) (lenOf (arg m c main_arg1) b)) with h | h
  · rw [early_row, h]; exact (by decide : (0#32).toNat < 2752)
  · obtain ⟨e, hl⟩ := row_toNat m c hT b n (mask_of_bit _ _ h)
    rw [e]; exact hl

/-- Under the mask the fed row is the sequence's packed row. -/
theorem fed_eq (b : Fin 8) (n : Fin 512) (h : mask n.val (lenOf (arg m c main_arg1) b) = 1) :
    fed m c b n.val = packedRow (arg m c main_arg0) (arg m c main_arg1) b n.val := by
  have en : (⟨n.val % 512, Nat.mod_lt _ (by decide)⟩ : Fin 512) = n := Fin.ext (Nat.mod_eq_of_lt n.isLt)
  funext k
  unfold fed inRow
  rw [en, trips_zero, last_x, late_bit, mask_unsigned, h]
  refine (mul_one _).trans ?_
  refine (take_row (early m c) (row_lt m c hT) b n k).trans ?_
  obtain ⟨e, hl⟩ := row_toNat m c hT b n h
  unfold packedRow
  rw [dif_pos hl]
  have ea : early m c (Proc.devRef .tc main_arg0) = arg m c main_arg0 :=
    (keep_main_arg0_hostOps0_1 _).trans (keep_main_arg0_hostOps0 _)
  rw [ea]
  exact congrArg (fun r => (arg m c main_arg0 : FVec Ideal S2752x512 .f32) (ix2 r k)) (Fin.ext e)

/-- The reference's result. -/
theorem result_packed : STEP^[512] (entryContents preI m c) (Proc.devRef .tc main_v32_15)
    = packed (arg m c main_arg0) (arg m c main_arg1) (arg m c main_arg2) (arg m c main_arg3) (argWeights m c) := by
  funext i
  obtain ⟨t, b, j, rfl⟩ : ∃ (t : Fin 512) (b : Fin 8) (j : Fin 256), i = ix3 t b j := ⟨_, _, _, eq_ix3 (n0 := 512) (n1 := 8) (n2 := 256) i⟩
  refine (trips_out m c t b j 512 (le_refl _) t.isLt).trans ?_
  show _ = (second (argWeights m c) (packedRow (arg m c main_arg0) (arg m c main_arg1) b) (startOf (arg m c main_arg2) (arg m c main_arg3) 0 b)
    (startOf (arg m c main_arg2) (arg m c main_arg3) 1 b) (t.val + 1)).1 j * mask t.val (lenOf (arg m c main_arg1) b)
  rw [mask_zero]
  rcases mask_zero_or_one t.val (lenOf (arg m c main_arg1) b) with h | h
  · rw [h]; exact (mul_zero (M₀ := EReal) _).trans (mul_zero (M₀ := EReal) _).symm
  · have hm : ∀ u : Fin 512, u.val < t.val + 1 → mask u.val (lenOf (arg m c main_arg1) b) = 1 :=
      fun u hu => mask_earlier u.val t.val _ (by omega) t.isLt h
    have hr := (trips_rows m c b (t.val + 1) (by omega) fun u hu => (mask_zero m c b u).trans (hm u hu)).2
    rw [hr, carried_zero, row1_zero, row2_zero,
      second_congr _ _ (packedRow (arg m c main_arg0) (arg m c main_arg1) b) _ _ _
        fun u hu => fed_eq m c hT b ⟨u, by omega⟩ (hm ⟨u, by omega⟩ hu)]

end Cert.ReferenceIdeal.Own

end
-- ==== Proof.Agree.lean ====
/- The value claim: from starts that fit, both programs end with the packed result of the shared arguments. -/
module

public import proofs.«01_k».proof.Defs
public import proofs.«01_k».proof.Proof.KernelFrame
public import proofs.«01_k».proof.Proof.KernelValue
public import proofs.«01_k».proof.Proof.RefValue

@[expose] public section

noncomputable section

namespace Cert.Own

open Idealize.ShloMosaic Idealize.ShloMosaic.TcCoe
open Idealize.SL Idealize.SL.Sem

theorem algebraic [hPre : Cert.Pre_starts_fit.Facts] : Cert.algebraic_KernelIdeal_ReferenceIdeal := by
  intro m g m' g' hpre hin
  have hs := Cert.KernelIdeal.Own.sound_ideal m hpre
  refine ⟨fun c => Cert.KernelIdeal.Own.X7 m c (Proc.devRef .tc Cert.KernelIdeal.main_v23),
    (θ_run _ _ _).mono (fun r hr c => ⟨hr.2 c, hr.1.1 c⟩) (Cert.KernelIdeal.Own.run_sound m g hs),
    (θ_run _ _ _).mono (fun r hr c => ⟨(hr c).1.trans ?_, (hr c).2⟩) (Cert.ReferenceIdeal.Value.run m' g')⟩
  obtain rfl : c = 0 := Subsingleton.elim _ _
  obtain ⟨e0, e1, e2, e3, e4, e5, e6, e7, e8, e9, e10, e11⟩ := hin 0
  refine (Cert.ReferenceIdeal.Own.result_packed m' 0 ?_).trans ?_
  · intro k
    unfold Cert.ReferenceIdeal.Own.arg
    rw [e1]
    exact (hs k).2.1
  · refine Eq.trans ?_ (Cert.KernelIdeal.Own.X7_packed m 0 hs rfl).symm
    unfold Cert.ReferenceIdeal.Own.argWeights Cert.KernelIdeal.Own.kernelWeights Cert.KernelIdeal.Own.arg Cert.ReferenceIdeal.Own.arg
    rw [e0, e1, e2, e3, e4, e5, e6, e7, e8, e9, e10, e11]

end Cert.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_starts_fit
public import proofs.«01_k».proof.Proof.KernelFrame
public import proofs.«01_k».proof.Proof.ReferenceFrame
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_starts_fit.Gen.facts,
  Cert.KernelIdeal.Own.quiescent_bits, Cert.KernelIdeal.Own.quiescent_ideal, Cert.ReferenceIdeal.Own.quiescent, Cert.ReferenceIdeal.Own.quiescent_pre,
  trivial, Cert.Own.algebraic⟩

end Cert.Proof

end
